-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S16x128x512 : Shape := ⟨3, ![16, 128, 512]⟩
abbrev S8 : Shape := ⟨1, ![8]⟩
abbrev S_ : Shape := ⟨0, ![]⟩
abbrev S128x512 : Shape := ⟨2, ![128, 512]⟩
abbrev S1x128x512 : Shape := ⟨3, ![1, 128, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S16x128x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v22 : BitVec 32 := Scalar.muli v2 c2_i32_19
  let v23 : BitVec 32 := Scalar.addi c0_i32_20 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v24 : BitVec 32 := Scalar.muli v6 c1_i32_21
  let v25 : BitVec 32 := Scalar.addi v23 v24
  v25.toNat
def k0_dev4 (d0 : Dev nD) : Nat :=
  let c0_i32_33 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_32 : BitVec 32 := 2#32
  let v39 : BitVec 32 := Scalar.muli v7 c2_i32_32
  let v40 : BitVec 32 := Scalar.addi c0_i32_33 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v41 : BitVec 32 := Scalar.muli v5 c1_i32_34
  let v42 : BitVec 32 := Scalar.addi v40 v41
  v42.toNat
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v56 : BitVec 32 := Scalar.muli v2 c2_i32_45
  let v57 : BitVec 32 := Scalar.addi c0_i32_46 v56
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v58 : BitVec 32 := Scalar.muli v6 c1_i32_47
  let v59 : BitVec 32 := Scalar.addi v57 v58
  v59.toNat
def k0_dev6 (d0 : Dev nD) : Nat :=
  let c0_i32_58 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_57 : BitVec 32 := 2#32
  let v73 : BitVec 32 := Scalar.muli v7 c2_i32_57
  let v74 : BitVec 32 := Scalar.addi c0_i32_58 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v75 : BitVec 32 := Scalar.muli v5 c1_i32_59
  let v76 : BitVec 32 := Scalar.addi v74 v75
  v76.toNat
def k0_dev7 (d0 : Dev nD) : Nat :=
  let c0_i32_85 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_84 : BitVec 32 := 2#32
  let v103 : BitVec 32 := Scalar.muli v7 c2_i32_84
  let v104 : BitVec 32 := Scalar.addi c0_i32_85 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v105 : BitVec 32 := Scalar.muli v5 c1_i32_86
  let v106 : BitVec 32 := Scalar.addi v104 v105
  v106.toNat
def k0_dev8 (d0 : Dev nD) : Nat :=
  let c0_i32_112 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_111 : BitVec 32 := 2#32
  let v133 : BitVec 32 := Scalar.muli v2 c2_i32_111
  let v134 : BitVec 32 := Scalar.addi c0_i32_112 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_113 : BitVec 32 := 1#32
  let v135 : BitVec 32 := Scalar.muli v6 c1_i32_113
  let v136 : BitVec 32 := Scalar.addi v134 v135
  v136.toNat
def k0_dev9 (d0 : Dev nD) : Nat :=
  let c0_i32_139 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_138 : BitVec 32 := 2#32
  let v163 : BitVec 32 := Scalar.muli v7 c2_i32_138
  let v164 : BitVec 32 := Scalar.addi c0_i32_139 v163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v165 : BitVec 32 := Scalar.muli v5 c1_i32_140
  let v166 : BitVec 32 := Scalar.addi v164 v165
  v166.toNat
def k0_dev10 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v193 : BitVec 32 := Scalar.muli v2 c2_i32_165
  let v194 : BitVec 32 := Scalar.addi c0_i32_166 v193
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_167 : BitVec 32 := 1#32
  let v195 : BitVec 32 := Scalar.muli v6 c1_i32_167
  let v196 : BitVec 32 := Scalar.addi v194 v195
  v196.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S2x512x2x512 : Shape := ⟨4, ![2, 512, 2, 512]⟩
abbrev S_ : Shape := ⟨0, ![]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2x512x2x512, .bf16⟩
  | .hbm, ⟨2, _⟩ => ⟨S2x512x2x512, .f32⟩
  | .hbm, ⟨3, _⟩ => ⟨S_, .f32⟩
  | .hbm, ⟨4, _⟩ => ⟨S512x512, .f32⟩
  | .hbm, ⟨5, _⟩ => ⟨S512x512, .bf16⟩
  | .hbm, ⟨6, _⟩ => ⟨S512x512, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Links.lean ====
/-
The four devices and the eight transfers each of them makes.

Device `d` sits at (d / 2, d % 2). `across d` is the device in the other column of its row, `along d` the one in the
other row of its column. Transfers are numbered by the kernel's semaphore pair `j < 8`: `j < 4` sends a chunk of the
input, `j ≥ 4` the sum of two chunks, and transfer `j` goes to `peer d j`.
-/
module

public import proofs.«01_k».proof.Proof.Gen.KernelIdeal
public import proofs.«01_k».proof.Proof.Gen.KernelIdeal.Skeleton

@[expose] public section

noncomputable section

namespace Cert.Gather

open Cert.KernelIdeal Cert.KernelIdeal.Gen
open Idealize.ShloMosaic
open Idealize.ShloMosaic.TcCoe
open Idealize.SL.Sem

/-! ## Neighbours -/

set_option backward.proofsInPublic true in
/-- The device in the same row and the other column. -/
def across (d : Dev nD) : Dev nD := ⟨(2 * (d.val / 2) + 1) - d.val % 2, by have h : d.val < 4 := d.isLt; show _ < 4; omega⟩
set_option backward.proofsInPublic true in
/-- The device in the same column and the other row. -/
def along (d : Dev nD) : Dev nD := ⟨(d.val % 2 + 2) - 2 * (d.val / 2), by have h : d.val < 4 := d.isLt; show _ < 4; omega⟩

/-- Crossing twice is staying. -/
theorem across_across (d : Dev nD) : across (across d) = d := by revert d; decide
/-- Going along twice is staying. -/
theorem along_along (d : Dev nD) : along (along d) = d := by revert d; decide
/-- The two crossings may be made in either order. -/
theorem along_across (d : Dev nD) : along (across d) = across (along d) := by revert d; decide
/-- The two neighbours differ. -/
theorem across_ne_along (d : Dev nD) : across d ≠ along d := by revert d; decide

/-- The four devices are `d`, its two neighbours and the neighbour of both. -/
theorem devices_eq (d : Dev nD) : (Finset.univ : Finset (Dev nD)) = {d, across d, along d, along (across d)} := by revert d; decide

/-- Where transfer `j` of a device goes. -/
def peer (d : Dev nD) (j : ℕ) : Dev nD := if j < 2 ∨ 6 ≤ j then across d else along d

/-- Transfer `j` pairs the devices up: the one that receives from `d` sends to `d`. -/
theorem peer_peer (d : Dev nD) (j : ℕ) : peer (peer d j) j = d := by
  unfold peer; split
  · exact across_across d
  · exact along_along d

/-- The pairing of transfer `j` as a permutation of the devices. -/
def pairing (j : ℕ) : Dev nD ≃ Dev nD := ⟨(peer · j), (peer · j), (peer_peer · j), (peer_peer · j)⟩
/-- The neighbours across, as a permutation. -/
def acrossEquiv : Dev nD ≃ Dev nD := ⟨across, across, across_across, across_across⟩
/-- The neighbours along, as a permutation. -/
def alongEquiv : Dev nD ≃ Dev nD := ⟨along, along, along_along, along_along⟩

/-- The two transfers that carry chunk `q` go to different neighbours. -/
theorem peer_two_hops (d : Dev nD) {q : ℕ} (hq : q < 4) :
    (peer d q = across d ∧ peer d (4 + q) = along d) ∨ (peer d q = along d ∧ peer d (4 + q) = across d) := by
  unfold peer
  by_cases h : q < 2
  · exact .inl ⟨if_pos (.inl h), if_neg (by omega)⟩
  · exact .inr ⟨if_neg (by omega), if_pos (by omega)⟩

/-- The device chains the kernel computes, as neighbours. -/
theorem sig_across (d : Dev nD) : (⟨k0_dev1 d, k0_dev1_lt d⟩ : Dev nD) = across d := Fin.ext (k0_dev1_eq d)
/-- The second signal goes along. -/
theorem sig_along (d : Dev nD) : (⟨k0_dev2 d, k0_dev2_lt d⟩ : Dev nD) = along d := Fin.ext (k0_dev2_eq d)
/-- The devices that the program computes for its eight transfers are their peers. -/
theorem to_0 (d : Dev nD) : (⟨k0_dev3 d, k0_dev3_lt d⟩ : Dev nD) = peer d 0 := Fin.ext (k0_dev3_eq d)
theorem to_2 (d : Dev nD) : (⟨k0_dev4 d, k0_dev4_lt d⟩ : Dev nD) = peer d 2 := Fin.ext (k0_dev4_eq d)
theorem to_1 (d : Dev nD) : (⟨k0_dev5 d, k0_dev5_lt d⟩ : Dev nD) = peer d 1 := Fin.ext (k0_dev5_eq d)
theorem to_3 (d : Dev nD) : (⟨k0_dev6 d, k0_dev6_lt d⟩ : Dev nD) = peer d 3 := Fin.ext (k0_dev6_eq d)
theorem to_4 (d : Dev nD) : (⟨k0_dev7 d, k0_dev7_lt d⟩ : Dev nD) = peer d 4 := Fin.ext (k0_dev7_eq d)
theorem to_6 (d : Dev nD) : (⟨k0_dev8 d, k0_dev8_lt d⟩ : Dev nD) = peer d 6 := Fin.ext (k0_dev8_eq d)
theorem to_5 (d : Dev nD) : (⟨k0_dev9 d, k0_dev9_lt d⟩ : Dev nD) = peer d 5 := Fin.ext (k0_dev9_eq d)
theorem to_7 (d : Dev nD) : (⟨k0_dev10 d, k0_dev10_lt d⟩ : Dev nD) = peer d 7 := Fin.ext (k0_dev10_eq d)

/-! ## Slots a transfer uses -/

/-- The slot transfer `j` reads on the sender. -/
def srcOf (j : ℕ) : ℕ := if j < 4 then j else 4 + j
/-- The slot transfer `j` writes on the receiver. -/
def dstOf (j : ℕ) : ℕ := if j < 4 then 4 + j else 8 + j

end Cert.Gather
-- ==== Proof.Slots.lean ====
/-
The scratch of sixteen slots: what each slot finally holds on each device, which elements of the buffer a slot is, and
what a load, a store and a landed transfer do to it.

Every slot is written once. So one function per device, `slab`, gives the contents each element ends with, and a slot
that has been written is held at `slab`, whatever the other slots hold.
-/
module

public import proofs.«01_k».proof.Proof.Links
public import Idealize.ShloMosaic.Lib.Pipeline.Value
public import Idealize.ShloMosaic.Lib.ValueLayout
public import Idealize.ShloMosaic.Lib.Pipeline.ValueKit.Geometry

@[expose] public section

noncomputable section

namespace Cert.Gather

open Cert.KernelIdeal Cert.KernelIdeal.Gen
open Idealize.ShloMosaic
open Idealize.ShloMosaic.TcCoe
open Idealize.ShloMosaic.ValueIdx
open Idealize.SL.Sem

variable {F : FTy → Type} [FloatOps F]

/-! ## What the slots hold -/

section Contents
variable (x : Dev nD → Vec F S512x512 .bf16)

set_option backward.proofsInPublic true in
/-- Chunk `q` of a device's block: its rows 128 q to 128 q + 127. -/
def chunk (d : Dev nD) (q : ℕ) : FVec F S128x512 .bf16 :=
  fun i => x d (ix2 (⟨(128 * q + (i 0).val) % 512, Nat.mod_lt _ (by decide)⟩ : Fin 512) (i 1))

/-- The sum of a device's chunk and the one its neighbour sends in the first round. -/
def pairSum (d : Dev nD) (q : ℕ) : FVec F S128x512 .bf16 := addf (chunk x d q) (chunk x (peer d q) q)

/-- The contents of slot `a`: own chunks, received chunks, own pair sums, received pair sums. -/
def slotVal (d : Dev nD) (a : ℕ) : FVec F S128x512 .bf16 :=
  if a < 4 then chunk x d a
  else if a < 8 then chunk x (peer d (a - 4)) (a - 4)
  else if a < 12 then pairSum x d (a - 8)
  else pairSum x (peer d (a - 8)) (a - 12)

/-- Slots 0 to 3 hold the device's own chunks. -/
theorem slotVal_own (d : Dev nD) {q : ℕ} (h : q < 4) : slotVal x d q = chunk x d q := if_pos h
/-- Slots 4 to 7 hold the chunks received. -/
theorem slotVal_got (d : Dev nD) {q : ℕ} (h : q < 4) : slotVal x d (4 + q) = chunk x (peer d q) q := by
  unfold slotVal; rw [if_neg (by omega), if_pos (by omega), Nat.add_sub_cancel_left]
/-- Slots 8 to 11 hold the sums of the two. -/
theorem slotVal_sum (d : Dev nD) {q : ℕ} (h : q < 4) : slotVal x d (8 + q) = pairSum x d q := by
  unfold slotVal; rw [if_neg (by omega), if_neg (by omega), if_pos (by omega), Nat.add_sub_cancel_left]
/-- Slots 12 to 15 hold the sums received. -/
theorem slotVal_gotSum (d : Dev nD) {q : ℕ} (h : q < 4) : slotVal x d (12 + q) = pairSum x (peer d (4 + q)) q := by
  unfold slotVal
  rw [if_neg (by omega), if_neg (by omega), if_neg (by omega), show 12 + q - 8 = 4 + q by omega, show 12 + q - 12 = q by omega]

/-- What transfer `j` reads on the sending side is what the receiving side's slot ends with. -/
theorem slotVal_moved (d : Dev nD) {j : ℕ} (h : j < 8) : slotVal x d (dstOf j) = slotVal x (peer d j) (srcOf j) := by
  by_cases hj : j < 4
  · rw [dstOf, srcOf, if_pos hj, if_pos hj, slotVal_got x d hj, slotVal_own x _ hj]
  · obtain ⟨q, rfl⟩ : ∃ q, j = 4 + q := ⟨j - 4, by omega⟩
    rw [dstOf, srcOf, if_neg hj, if_neg hj, ← Nat.add_assoc, ← Nat.add_assoc]
    exact (slotVal_gotSum x d (by omega)).trans (slotVal_sum x _ (by omega)).symm

/-- The whole scratch of a device, once every slot has been written. -/
def slab (d : Dev nD) : Vec F S16x128x512 .bf16 := fun i => slotVal x d (i 0).val (ix2 (i 1) (i 2))

/-- The sum over all four devices of chunk `q`, as the device computes and widens it. -/
def rowsOut (d : Dev nD) (q : ℕ) : FVec F S128x512 .f32 :=
  extf .f32 (addf (pairSum x d q) (pairSum x (peer d (4 + q)) q)) bitsLt_bf16_f32

set_option backward.proofsInPublic true in
/-- The whole result of a device. -/
def outAll (d : Dev nD) : Vec F S512x512 .f32 :=
  fun i => rowsOut x d ((i 0).val / 128) (ix2 (⟨(i 0).val % 128, Nat.mod_lt _ (by decide)⟩ : Fin 128) (i 1))

end Contents

/-! ## Which elements a slot is -/

/-- The buffers the kernel works on. -/
abbrev inM : Memref sig .tc .vmem S512x512 .bf16 := Memref.whole cc0_stg0_0
/-- The result block. -/
abbrev outM : Memref sig .tc .vmem S512x512 .f32 := Memref.whole cc0_stg1_0
/-- The scratch. -/
abbrev scrM : Memref sig .tc .vmem S16x128x512 .bf16 := Memref.whole cc0_scratch0

/-- The offsets of slot `a` are inside the scratch. -/
abbrev Inb (a : ℕ) : Prop := ∀ i, (![a, 0, 0] : Fin 3 → Nat) i + S1x128x512.size i ≤ S16x128x512.size i
/-- There are sixteen slots. -/
theorem Inb.lt {a : ℕ} (h : Inb a) : a < 16 := by have := h 0; simp only [Matrix.cons_val_zero, S1x128x512, S16x128x512] at this; omega

/-- Slot `a` as a rectangle of the scratch, and as the memref a transfer names. -/
abbrev slotRect (a : ℕ) (h : Inb a) : Rect S16x128x512 := Rect.unit (s := S16x128x512) ![a, 0, 0] S1x128x512.size h
/-- Slot `a` as a copy sees it. -/
abbrev slotM (a : ℕ) (h : Inb a) : Memref sig .tc .vmem S128x512 .bf16 :=
  (scrM.slice (slotRect a h) (fun _ => rfl)).squeeze S128x512 squeezes_S1x128x512_S128x512

/-- The elements of slot `a`. -/
def slotSet (a : ℕ) : Finset S16x128x512.Idx := Finset.univ.filter fun i => (i 0).val = a

/-- A slot's elements are those with its first coordinate. -/
theorem mem_slotSet {a : ℕ} {i : S16x128x512.Idx} : i ∈ slotSet a ↔ (i 0).val = a := by simp [slotSet]

/-- The rectangle of a slot is the slot. -/
theorem slotRect_set (a : ℕ) (h : Inb a) : (slotRect a h).set = slotSet a := by
  ext i
  rw [Rect.mem_set_unit, mem_slotSet]
  constructor
  · intro hi; have := hi 0; simp only [Matrix.cons_val_zero, S1x128x512] at this; omega
  · intro hi k
    have h1 : (i 1).val < 128 := (i 1).isLt
    have h2 : (i 2).val < 512 := (i 2).isLt
    fin_cases k <;> simp [S1x128x512] <;> omega

/-- A load or store of a slot touches the slot. -/
theorem slotAccess_set (a : ℕ) (h : Inb a) : (scrM.access (slotRect a h)).set = slotSet a := by
  rw [← slotRect_set a h]; exact View.set_slice_whole _ _

/-- A copy of a slot touches the slot. -/
theorem slotM_set (a : ℕ) (h : Inb a) : (slotM a h).view.set = slotSet a := by
  rw [← slotAccess_set a h]; exact View.set_reshape _ _

/-- Different slots share nothing. -/
theorem slotSet_disjoint {a b : ℕ} (h : a ≠ b) : Disjoint (slotSet a) (slotSet b) :=
  Finset.disjoint_left.mpr fun i ha hb => h ((mem_slotSet.mp ha).symm.trans (mem_slotSet.mp hb))

/-- The sixteen slots are the whole scratch. -/
theorem slots_cover : (Finset.univ : Finset (Fin 16)).biUnion (fun a => slotSet a.val) = (Finset.univ : Finset S16x128x512.Idx) := by
  ext i
  simp only [Finset.mem_biUnion, Finset.mem_univ, true_and, iff_true]
  exact ⟨i 0, mem_slotSet.mpr rfl⟩

/-! ## Reading and writing a slot -/

/-- Where an element of a slot lies, for a load or store. -/
theorem slotAccess_emb (a : ℕ) (h : Inb a) (u : Fin 1) (p : Fin 128) (c : Fin 512) :
    (scrM.access (slotRect a h)).emb (ix3 u p c) = ix3 (⟨a, h.lt⟩ : Fin 16) p c := by
  have e := fun k => ValueKit.view_emb_slice_whole_unit_val cc0_scratch0 ![a, 0, 0] S1x128x512.size h (ix3 u p c) k
  have hu : u.val = 0 := by omega
  funext k
  refine Fin.ext ((e k).trans ?_)
  fin_cases k
  · show a + u.val = a; omega
  · show 0 + p.val = p.val; omega
  · show 0 + c.val = c.val; omega

/-- Where an element of a slot lies, for a copy. -/
theorem slotM_emb (a : ℕ) (h : Inb a) (p : Fin 128) (c : Fin 512) :
    (slotM a h).view.emb (ix2 p c) = ix3 (⟨a, h.lt⟩ : Fin 16) p c := by
  rw [← slotAccess_emb a h ⟨0, Nat.one_pos⟩ p c]
  show (scrM.access (slotRect a h)).emb (Shape.reshapeEquiv _ (ix2 p c)) = _
  rw [reshapeEquiv_ix2_1ab]

/-- Every element of slot `a` is one of its rows and columns. -/
theorem slot_elem {a : ℕ} (h : Inb a) {i : S16x128x512.Idx} (hi : i ∈ slotSet a) :
    ∃ (p : Fin 128) (c : Fin 512), i = ix3 (⟨a, h.lt⟩ : Fin 16) p c := by
  refine ⟨i 1, i 2, ?_⟩
  funext k
  match k with
  | ⟨0, _⟩ => exact Fin.ext (mem_slotSet.mp hi)
  | ⟨1, _⟩ => rfl
  | ⟨2, _⟩ => rfl

variable (x : Dev nD → Vec F S512x512 .bf16)

/-- The final contents at given coordinates. -/
theorem slab_ix3 (d : Dev nD) (a : Fin 16) (p : Fin 128) (c : Fin 512) : slab x d (ix3 a p c) = slotVal x d a.val (ix2 p c) := rfl

/-- A load of slot `a` reads its final contents as one slab of the scratch. -/
theorem read_slot (d : Dev nD) (a : ℕ) (h : Inb a) :
    (scrM.access (slotRect a h)).read (Elt F) (slab x d) = shapeCast S1x128x512 (slotVal x d a) shapeCasts_S128x512_S1x128x512 := by
  funext i
  obtain ⟨u, p, c, rfl⟩ : ∃ (u : Fin 1) (p : Fin 128) (c : Fin 512), i = ix3 u p c := ⟨_, _, _, eq_ix3 i⟩
  refine (View.read_apply _ _).trans ?_
  rw [slotAccess_emb a h]
  exact (shapeCast_ab_1ab_apply (slotVal x d a) shapeCasts_S128x512_S1x128x512 _ _ _).symm

/-- A transfer out of slot `a` reads its final contents. -/
theorem send_slot (d : Dev nD) (a : ℕ) (h : Inb a) : (slotM a h).view.read (Elt F) (slab x d) = slotVal x d a := by
  funext i
  obtain ⟨p, c, rfl⟩ : ∃ (p : Fin 128) (c : Fin 512), i = ix2 p c := ⟨_, _, eq_ix2 i⟩
  refine (View.read_apply _ _).trans ?_
  rw [slotM_emb a h]
  rfl

/-- A store of a slot's final contents leaves the slot at `slab`. -/
theorem store_slot (d : Dev nD) (a : ℕ) (h : Inb a) (f : Vec F S16x128x512 .bf16) (w : Vec F S1x128x512 .bf16)
    (hw : w = shapeCast S1x128x512 (slotVal x d a) shapeCasts_S128x512_S1x128x512) :
    ∀ i ∈ slotSet a, (scrM.access (slotRect a h)).write (Elt F) f w Finset.univ i = slab x d i := by
  intro i hi
  obtain ⟨p, c, rfl⟩ := slot_elem h hi
  rw [← slotAccess_emb a h ⟨0, Nat.one_pos⟩ p c]
  refine (View.write_emb_of_mem _ _ (Finset.mem_univ _)).trans ?_
  rw [hw, slotAccess_emb a h]
  exact shapeCast_ab_1ab_apply (slotVal x d a) shapeCasts_S128x512_S1x128x512 _ _ _

/-- Transfer `j` landing on device `d` leaves its slot at `slab`. -/
theorem land_slot (d : Dev nD) {j : ℕ} (hj : j < 8) (a b : ℕ) (ha : Inb a) (hb : Inb b) (ea : a = srcOf j) (eb : b = dstOf j)
    (f : Vec F S16x128x512 .bf16) :
    ∀ i ∈ slotSet b, (slotM b hb).view.write (Elt F) f ((slotM a ha).view.read (Elt F) (slab x (peer d j))) Finset.univ i = slab x d i := by
  intro i hi
  obtain ⟨p, c, rfl⟩ := slot_elem hb hi
  rw [← slotM_emb b hb p c]
  refine (View.write_emb_of_mem _ _ (Finset.mem_univ _)).trans ?_
  rw [send_slot x _ a ha, slotM_emb b hb, slab_ix3]
  show slotVal x (peer d j) a _ = slotVal x d b _
  rw [ea, eb, slotVal_moved x d hj]

/-! ## The input block and the result block -/

/-- 128 rows from row `r` on are rows of the block. -/
abbrev RowInb (r : ℕ) : Prop := ∀ i, (![r, 0] : Fin 2 → Nat) i + S128x512.size i ≤ S512x512.size i
/-- So `r + 128` is at most 512. -/
theorem RowInb.le {r : ℕ} (h : RowInb r) : r + 128 ≤ 512 := h 0
/-- The rectangle of these rows. -/
abbrev rowRect (r : ℕ) (h : RowInb r) : Rect S512x512 := Rect.unit (s := S512x512) ![r, 0] S128x512.size h

/-- A load of 128 rows of the input block reads a chunk. -/
theorem read_chunk (d : Dev nD) (q : ℕ) (h : RowInb (128 * q)) :
    (inM.access (rowRect (128 * q) h)).read (Elt F) (x d) = chunk x d q := by
  funext i
  refine (View.read_apply _ _).trans ?_
  refine congrArg (x d) ?_
  have h0 : (i 0).val < 128 := (i 0).isLt
  funext k
  refine Fin.ext ((ValueKit.view_emb_slice_whole_unit_val cc0_stg0_0 ![128 * q, 0] S128x512.size h i k).trans ?_)
  fin_cases k
  · show 128 * q + (i 0).val = (128 * q + (i 0).val) % 512
    have := h.le; omega
  · show 0 + (i 1).val = (i 1).val; omega

/-- The elements of row group `q` of the result block. -/
def rowSet (q : ℕ) : Finset S512x512.Idx := Finset.univ.filter fun i => (i 0).val / 128 = q
/-- A chunk's elements are those whose row is in it. -/
theorem mem_rowSet {q : ℕ} {i : S512x512.Idx} : i ∈ rowSet q ↔ (i 0).val / 128 = q := by simp [rowSet]

/-- A load or store of a chunk's rows touches those rows. -/
theorem rowAccess_set (q : ℕ) (h : RowInb (128 * q)) : (outM.access (rowRect (128 * q) h)).set = rowSet q := by
  refine (View.set_slice_whole _ _).trans ?_
  ext i
  rw [Rect.mem_set_unit, mem_rowSet]
  have h1 : (i 1).val < 512 := (i 1).isLt
  constructor
  · intro hi; have := hi 0; simp only [Matrix.cons_val_zero, S128x512] at this; omega
  · intro hi k
    fin_cases k <;> simp [S128x512] <;> omega

/-- Different chunks share no rows. -/
theorem rowSet_disjoint {a b : ℕ} (h : a ≠ b) : Disjoint (rowSet a) (rowSet b) :=
  Finset.disjoint_left.mpr fun i ha hb => h ((mem_rowSet.mp ha).symm.trans (mem_rowSet.mp hb))

/-- The four chunks are the block. -/
theorem rows_cover : (Finset.univ : Finset (Fin 4)).biUnion (fun q => rowSet q.val) = (Finset.univ : Finset S512x512.Idx) := by
  ext i
  have h0 : (i 0).val < 512 := (i 0).isLt
  simp only [Finset.mem_biUnion, Finset.mem_univ, true_and, iff_true]
  exact ⟨⟨(i 0).val / 128, by omega⟩, mem_rowSet.mpr rfl⟩

/-- Where an element of a chunk's rows lies. -/
theorem rowAccess_emb (q : ℕ) (h : RowInb (128 * q)) (p : Fin 128) (c : Fin 512) :
    (outM.access (rowRect (128 * q) h)).emb (ix2 p c) = ix2 (⟨128 * q + p.val, by have := h.le; omega⟩ : Fin 512) c := by
  have e := fun k => ValueKit.view_emb_slice_whole_unit_val cc0_stg1_0 ![128 * q, 0] S128x512.size h (ix2 p c) k
  funext k
  refine Fin.ext ((e k).trans ?_)
  fin_cases k
  · rfl
  · show 0 + c.val = c.val; omega

/-- A store of the sum of chunk `q` leaves its rows at the result. -/
theorem store_rows (d : Dev nD) (q : ℕ) (h : RowInb (128 * q)) (f : (outM.access (rowRect (128 * q) h)).ty.Contents (Elt F)) (w : Vec F S128x512 .f32)
    (hw : w = rowsOut x d q) (i : S512x512.Idx) (hi : i ∈ rowSet q) :
    (outM.access (rowRect (128 * q) h)).write (Elt F) f w Finset.univ i = outAll x d i := by
  have hq := mem_rowSet.mp hi
  have h0 : (i 0).val < 512 := (i 0).isLt
  obtain ⟨p, c, hp, rfl⟩ : ∃ (p : Fin 128) (c : Fin 512) (hp : 128 * q + p.val < 512), i = ix2 (⟨128 * q + p.val, hp⟩ : Fin 512) c := by
    refine ⟨⟨(i 0).val % 128, Nat.mod_lt _ (by decide)⟩, i 1, by show 128 * q + (i 0).val % 128 < 512; omega, ?_⟩
    funext k
    match k with
    | ⟨0, _⟩ => exact Fin.ext (show (i 0).val = 128 * q + (i 0).val % 128 by omega)
    | ⟨1, _⟩ => rfl
  rw [← rowAccess_emb q h p c]
  refine (View.write_emb_of_mem _ _ (Finset.mem_univ _)).trans ?_
  rw [rowAccess_emb q h p c, hw]
  have e1 : (128 * q + p.val) / 128 = q := hq
  have e2 : (128 * q + p.val) % 128 = p.val := by have := p.isLt; omega
  show rowsOut x d q (ix2 p c) = rowsOut x d ((128 * q + p.val) / 128) (ix2 ⟨(128 * q + p.val) % 128, _⟩ c)
  simp only [e1, e2]

/-! ## The payloads -/

/-- Storing a chunk, as the kernel reshapes it. -/
theorem pay_chunk (v : Vec F S128x512 .bf16) : k0_pay1 v = shapeCast S1x128x512 v shapeCasts_S128x512_S1x128x512 := by
  unfold k0_pay1; rw [shapeCast_self]

/-- The pair sum of two slots, as the kernel computes it. -/
theorem pay_pair (a b : FVec F S128x512 .bf16) :
    k0_pay5 (shapeCast S1x128x512 a shapeCasts_S128x512_S1x128x512) (shapeCast S1x128x512 b shapeCasts_S128x512_S1x128x512)
      = shapeCast S1x128x512 (addf a b) shapeCasts_S128x512_S1x128x512 := by
  unfold k0_pay5; simp only [shapeCast_shapeCast]

/-- The final sum of two slots, as the kernel computes it. -/
theorem pay_final (a b : FVec F S128x512 .bf16) :
    k0_pay9 (shapeCast S1x128x512 a shapeCasts_S128x512_S1x128x512) (shapeCast S1x128x512 b shapeCasts_S128x512_S1x128x512)
      = extf .f32 (addf a b) bitsLt_bf16_f32 := by
  unfold k0_pay9; simp only [shapeCast_shapeCast]

end Cert.Gather
-- ==== Proof.Blocks.lean ====
/-
The kernel as a sequence of blocks: the handshake, four blocks that put a chunk in its slot and send it, four that add
the received chunk and forward the sum, four that add the received sum and write the rows, and eight waits for the
device's own transfers to have left.
-/
module

public import proofs.«01_k».proof.Proof.Slots

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-! ## Bounds at a symbolic slot -/

/-- Sixteen slots fit in the scratch. -/
theorem inb_slot {a : ℕ} (h : a < 16) : Inb a := by
  intro i; fin_cases i
  · show a + 1 ≤ 16; omega
  · show 0 + 128 ≤ 128; omega
  · show 0 + 512 ≤ 512; omega

/-- Every slot is made of whole machine words. -/
theorem slot_words (a : ℕ) (h : Inb a) : (slotRect a h).WholeWords (EltTy.packing .bf16) :=
  (by decide : ∀ a : Fin 16, (slotRect a.val (inb_slot a.isLt)).WholeWords (EltTy.packing .bf16)) ⟨a, h.lt⟩
/-- A slot's rows are packed whole. -/
theorem slot_packed (a : ℕ) (h : Inb a) : (slotRect a h).PackedRows (EltTy.packing .bf16) :=
  (by decide : ∀ a : Fin 16, (slotRect a.val (inb_slot a.isLt)).PackedRows (EltTy.packing .bf16)) ⟨a, h.lt⟩

/-- A slot is made of whole words. -/
theorem slotM_exact (a : ℕ) (h : Inb a) : (slotM a h).view.WordExact :=
  ((Memref.isWhole_whole cc0_scratch0).wordExact_slice rfl _ (slot_words a h)).reshape _ _

/-! ## Semaphores -/

/-- Semaphore `j` is among the eight. -/
abbrev SemInb (j : ℕ) : Prop := ∀ a, (![j] : Fin 1 → Nat) a + S1.size a ≤ S8.size a
/-- Semaphore `j` of an array of eight. -/
abbrev semOf (A : DmaSems sig S8) (j : ℕ) (h : SemInb j) : DmaSem sig :=
  ((A.slice (Rect.unit (s := S8) ![j] S1.size h)).squeeze S_ squeezes_S1_S_).sem

/-! ## The blocks -/

/-- A piece of the body. -/
abbrev Code (F : FTy → Type) [FloatOps F] (α : Type) := Prog (TpuEff nD τ sig (Elt F) Λ₀ .tc) α

/-- The barrier semaphore. -/
abbrev barS : Sem sig := (SemArray.scalar (sig.barrier 0 rfl) : Sems sig S_).sem

/-- Tell both neighbours, and hear from both. -/
def meetUp (n₁ n₂ : Dev nD) : Code F PUnit := do
  semSignalWord n₁ barS 1#32
  semSignalWord n₂ barS 1#32
  semWaitWord barS 2#32

/-- Start the transfer of slot `a` into slot `b` of device `n`, on semaphore pair `j`. -/
abbrev sendOp (n : Dev nD) (j a b : ℕ) (hj : SemInb j) (ha : Inb a) (hb : Inb b) : Code F PUnit :=
  Prog.lift (.enqueueDma (slotM a ha) (.remote (Dev.tc n) (slotM b hb) (.dma (semOf cc0_scratch1 j hj))) (.dma (semOf cc0_scratch2 j hj))
    (slotM_exact a ha) (slotM_exact b hb) ⟨⟨rfl, Or.inl rfl⟩, trivial⟩)

/-- Wait on semaphore `j` of one of the two arrays for the credit of one slot. -/
abbrev waitOp (A : DmaSems sig S8) (j a b : ℕ) (hj : SemInb j) (ha : Inb a) (hb : Inb b) : Code F PUnit :=
  Prog.lift (.waitDma2 (semOf A j hj) (slotM a ha) (slotM b hb) (slotM_exact a ha) (slotM_exact b hb))

/-- Load slot `a` of the scratch. -/
abbrev loadSlot (a : ℕ) (h : Inb a) : Code F (Vec F S1x128x512 .bf16) :=
  Prog.lift (.load scrM (slotRect a h).toLoadRect (View.loadsAt_vmem h_S1x128x512))
/-- Store into slot `a` of the scratch. -/
abbrev storeSlot (a : ℕ) (h : Inb a) (v : Vec F S1x128x512 .bf16) : Code F PUnit :=
  Prog.lift (.store scrM (slotRect a h) v Finset.univ
    (View.stores_vmem h_S1x128x512 ((Memref.isWhole_whole cc0_scratch0).storeExact_slice rfl _ (slot_packed a h)) (fun _ => rfl)) (.inl rfl))
/-- Load 128 rows of the input block. -/
abbrev loadIn (r : ℕ) (h : RowInb r) : Code F (Vec F S128x512 .bf16) :=
  Prog.lift (.load inM (rowRect r h).toLoadRect (View.loadsAt_vmem h_S128x512))
/-- Load 128 rows of the result (what is read is not used). -/
abbrev loadOut (r : ℕ) (h : RowInb r) : Code F (Vec F S128x512 .f32) :=
  Prog.lift (.load outM (rowRect r h).toLoadRect (View.loadsAt_vmem h_S128x512))
/-- Store 128 rows of the result. -/
abbrev storeOut (r : ℕ) (h : RowInb r) (v : Vec F S128x512 .f32) : Code F PUnit :=
  Prog.lift (.store outM (rowRect r h) v Finset.univ (View.stores_vmem_bits_univ h_S128x512 rfl) (.inl rfl))

/-- A chunk's rows are rows of the block. -/
theorem row_inb {q : ℕ} (h : q < 4) : RowInb (128 * q) := by
  intro i; fin_cases i
  · show 128 * q + 128 ≤ 512; omega
  · show 0 + 512 ≤ 512; omega
/-- Eight semaphores fit in the array. -/
theorem sem_inb {j : ℕ} (h : j < 8) : SemInb j := by
  intro i; fin_cases i
  show j + 1 ≤ 8; omega

section
variable (n : Dev nD) (q : ℕ) (h : q < 4)

/-- Put chunk `q` in slot `q` and send it to the first partner's slot 4 + q. -/
def putAndSend : Code F PUnit := do
  let v ← loadIn (128 * q) (row_inb h)
  let _ ← loadSlot (F := F) q (inb_slot (by omega))
  storeSlot q (inb_slot (by omega)) (k0_pay1 v)
  sendOp n q q (4 + q) (sem_inb (by omega)) (inb_slot (by omega)) (inb_slot (by omega))

/-- Receive the partner's chunk `q`, add it to one's own, and send the sum to the second partner's slot 12 + q. -/
def addAndSend : Code F PUnit := do
  waitOp cc0_scratch2 q q (4 + q) (sem_inb (by omega)) (inb_slot (by omega)) (inb_slot (by omega))
  let v ← loadSlot q (inb_slot (by omega))
  let w ← loadSlot (4 + q) (inb_slot (by omega))
  let _ ← loadSlot (F := F) (8 + q) (inb_slot (by omega))
  storeSlot (8 + q) (inb_slot (by omega)) (k0_pay5 v w)
  sendOp n (4 + q) (8 + q) (12 + q) (sem_inb (by omega)) (inb_slot (by omega)) (inb_slot (by omega))

/-- Receive the partner's sum `q`, add it to one's own, and write the rows. -/
def addAndWrite : Code F PUnit := do
  waitOp cc0_scratch2 (4 + q) (8 + q) (12 + q) (sem_inb (by omega)) (inb_slot (by omega)) (inb_slot (by omega))
  let v ← loadSlot (8 + q) (inb_slot (by omega))
  let w ← loadSlot (12 + q) (inb_slot (by omega))
  let _ ← loadOut (F := F) (128 * q) (row_inb h)
  storeOut (128 * q) (row_inb h) (k0_pay9 v w)

/-- Wait for the device's own transfers of chunk `q` and of sum `q` to have left. -/
def drain : Code F PUnit := do
  waitOp cc0_scratch1 q (4 + q) q (sem_inb (by omega)) (inb_slot (by omega)) (inb_slot (by omega))
  waitOp cc0_scratch1 (4 + q) (12 + q) (8 + q) (sem_inb (by omega)) (inb_slot (by omega)) (inb_slot (by omega))

end

/-- The whole body, in the order the kernel runs its blocks. -/
def blocks : Code F PUnit := do
  let d : Dev nD ← Prog.lift .deviceId
  meetUp ⟨k0_dev1 d, k0_dev1_lt d⟩ ⟨k0_dev2 d, k0_dev2_lt d⟩
  putAndSend ⟨k0_dev3 d, k0_dev3_lt d⟩ 0 (by decide)
  putAndSend ⟨k0_dev4 d, k0_dev4_lt d⟩ 2 (by decide)
  putAndSend ⟨k0_dev5 d, k0_dev5_lt d⟩ 1 (by decide)
  putAndSend ⟨k0_dev6 d, k0_dev6_lt d⟩ 3 (by decide)
  addAndSend ⟨k0_dev7 d, k0_dev7_lt d⟩ 0 (by decide)
  addAndSend ⟨k0_dev8 d, k0_dev8_lt d⟩ 2 (by decide)
  addAndSend ⟨k0_dev9 d, k0_dev9_lt d⟩ 1 (by decide)
  addAndSend ⟨k0_dev10 d, k0_dev10_lt d⟩ 3 (by decide)
  addAndWrite 0 (by decide)
  addAndWrite 2 (by decide)
  addAndWrite 1 (by decide)
  addAndWrite 3 (by decide)
  drain 0 (by decide)
  drain 1 (by decide)
  drain 2 (by decide)
  drain 3 (by decide)

set_option maxRecDepth 65536 in
/-- The kernel's body is these blocks. -/
theorem body_blocks (ha : inM.IsWhole) (ho : outM.IsWhole) (hs : scrM.IsWhole) :
    cc0_body (F := F) inM ha outM ho scrM hs cc0_scratch1 cc0_scratch2 = blocks := by
  rw [cc0_body_eq_skeleton]
  rfl

end Cert.Gather
-- ==== Proof.Protocol.lean ====
/-
The protocol: what each semaphore's signals hand over, how much each device owes at each point, and in which order
the waits may be met.

A device's barrier semaphore gets one signal from each neighbour, and each signal lends the four slots of its sender
that the receiver will write. The receive semaphore of transfer `j` hands over the slot it landed in, at its final
contents; the send semaphore hands back the half share of the slot that was read.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resource. -/
abbrev UB : Type := URounds (GSem nD τ sig) Bool
/-- It, beside the pipeline's. -/
abbrev UU : Type := UR sig nD τ × UB

local notation "𝕄" => MT nD τ sig Unit (Elt F) ℕ UU ℕ

/-- Where the pipeline's resource lies. -/
abbrev EP : Emb (UR sig nD τ) (MT nD τ sig Unit (Elt F) ℕ UU ℕ) := embL
/-- Where the protocol's resource lies. -/
abbrev ER : Emb UB (MT nD τ sig Unit (Elt F) ℕ UU ℕ) := embR

/-! ## Cells -/

/-- The send semaphore of transfer `j`. -/
abbrev sndSem (j : Fin 8) : DmaSem sig := semOf cc0_scratch1 j.val (sem_inb j.isLt)
/-- The receive semaphore of transfer `j`. -/
abbrev rcvSem (j : Fin 8) : DmaSem sig := semOf cc0_scratch2 j.val (sem_inb j.isLt)

/-- The number of a send semaphore. -/
theorem sndSem_val : ∀ j : Fin 8, (sndSem j).val = 2 + j.val := by decide
/-- The number of a receive semaphore. -/
theorem rcvSem_val : ∀ j : Fin 8, (rcvSem j).val = 10 + j.val := by decide

/-- The barrier cell of a device. -/
abbrev barCell (d : Dev nD) : GSem nD τ sig := ((d : Thread nD τ), .reg barS)
/-- A send cell of a device. -/
abbrev sndCell (d : Dev nD) (j : Fin 8) : GSem nD τ sig := ((d : Thread nD τ), .dma (sndSem j))
/-- A receive cell of a device. -/
abbrev rcvCell (d : Dev nD) (j : Fin 8) : GSem nD τ sig := ((d : Thread nD τ), .dma (rcvSem j))

/-- The credit one slot's transfer carries. -/
abbrev N : ℕ := (slotM 0 (inb_slot (by decide))).view.dmaCredit
/-- A slot's credit is positive. -/
theorem N_pos : 0 < N := View.dmaCredit_pos _ (by decide)
/-- Every slot has the same credit. -/
theorem slot_credit (a : ℕ) (h : Inb a) : (slotM a h).view.dmaCredit = N := rfl

/-! ## Holding a slot -/

/-- Share `q` of slot `a` of device `d`, holding what `f` says of it. -/
def slotPts (d : Dev nD) (a : ℕ) (q : PosShare TreeShare) (f : Vec F S16x128x512 .bf16) : sProp 𝕄 :=
  ((d : Thread nD τ).loc cc0_scratch0) ↦[slotSet a]{q} f
/-- Slot `a` of device `d` with whatever it holds. -/
def anySlot (d : Dev nD) (a : ℕ) : sProp 𝕄 := iprop(∃ f : Vec F S16x128x512 .bf16, slotPts d a fullShare f)

omit [FloatOps F] in
/-- A held slot may be put into an invariant. -/
instance slotPts_storable (d : Dev nD) (a : ℕ) (q) (f) : BI.Storable (upEmb : UEmb _ 𝕄) (slotPts (F := F) d a q f) := by
  unfold slotPts; infer_instance
omit [FloatOps F] in
/-- So may a slot of unknown contents. -/
instance anySlot_storable (d : Dev nD) (a : ℕ) : BI.Storable (upEmb : UEmb _ 𝕄) (anySlot (F := F) d a) := by
  unfold anySlot; infer_instance

omit [FloatOps F] in
/-- What a slot holds is only what is written in it. -/
theorem slotPts_congr (d : Dev nD) (a : ℕ) (q) {f g : Vec F S16x128x512 .bf16} (h : ∀ i ∈ slotSet a, f i = g i) :
    slotPts d a q f = slotPts d a q g := pointsTo_congr h

omit [FloatOps F] in
/-- A slot's full share is its two halves. -/
theorem slotPts_halves (d : Dev nD) (a : ℕ) (f : Vec F S16x128x512 .bf16) :
    slotPts d a fullShare f ⊣⊢ iprop(slotPts d a fullShare.left f ∗ slotPts d a fullShare.right f) :=
  pointsTo_share (PosShare.mem_left_op_right fullShare)

omit [FloatOps F] in
/-- The whole scratch is its sixteen slots. -/
theorem scratch_slots (d : Dev nD) (f : Vec F S16x128x512 .bf16) :
    (((d : Thread nD τ).loc cc0_scratch0) ↦{fullShare} f : sProp 𝕄) = bigSep (Finset.univ : Finset (Fin 16)) fun a => slotPts d a.val fullShare f := by
  refine Eq.trans ?_ (pointsTo_biUnion (ℓ := (d : Thread nD τ).loc cc0_scratch0) Finset.univ (fun a : Fin 16 => slotSet a.val)
    (fun a _ b _ hab => slotSet_disjoint fun e => hab (Fin.ext e)))
  rw [slots_cover]

/-- The slots a barrier signal lends: `false` those written by transfers to the neighbour across, `true` along. -/
def lent (d : Dev nD) : Bool → sProp 𝕄
  | false => iprop(anySlot (F := F) d 4 ∗ anySlot d 5 ∗ anySlot d 14 ∗ anySlot d 15)
  | true => iprop(anySlot (F := F) d 6 ∗ anySlot d 7 ∗ anySlot d 12 ∗ anySlot d 13)

omit [FloatOps F] in
/-- So may the slots that a neighbour lends. -/
instance lent_storable (d : Dev nD) (b : Bool) : BI.Storable (upEmb : UEmb _ 𝕄) (lent (F := F) d b) := by
  unfold lent; cases b <;> infer_instance

variable (x : Dev nD → Vec F S512x512 .bf16)

/-! ## The schedule -/

/-- Which neighbour a barrier signal comes from. -/
def sender (d : Dev nD) : Bool → Dev nD
  | false => across d
  | true => along d

/-- The schedule: each cell has one round, with its duties, their amounts and what each hands over. -/
def rounds : Rounds.Schedule (GSem nD τ sig) Bool 𝕄 where
  duties g r := if r = 0 ∧ g.1.2 = .tc then
      match g.2 with
      | .reg _ => {false, true}
      | .dma s => if 2 ≤ s.val then {false} else ∅
    else ∅
  unitless _ := False
  amount g _ _ := match g.2 with
    | .reg _ => 1
    | .dma _ => N
  payload g _ b := match g.2 with
    | .reg _ => lent (sender g.1.1 b) b
    | .dma s => if s.val < 10 then slotPts g.1.1 (srcOf (s.val - 2)) fullShare.right (slab x g.1.1)
        else slotPts g.1.1 (dstOf (s.val - 10)) fullShare (slab x g.1.1)
  amount_pos g _ _ _ := by
    match h : g.2 with
    | .reg _ => exact Nat.one_pos
    | .dma _ => exact N_pos

/-- Everything handed over may be put into an invariant. -/
instance rounds_storable (g : GSem nD τ sig) (r : ℕ) (b : Bool) : BI.Storable (upEmb : UEmb _ 𝕄) ((rounds (F := F) x).payload g r b) := by
  obtain ⟨c, s⟩ := g
  cases s with
  | reg s => show BI.Storable upEmb (lent _ _); infer_instance
  | dma s =>
    show BI.Storable upEmb (if s.val < 10 then slotPts _ _ _ _ else slotPts _ _ _ _)
    split <;> infer_instance

section Reading
variable (d : Dev nD) (j : Fin 8)

/-- The barrier's two duties, one for each neighbour. -/
theorem duties_bar : (rounds (F := F) x).duties (barCell d) 0 = {false, true} := by dsimp only [rounds]; exact if_pos ⟨rfl, rfl⟩
/-- A send cell's one duty. -/
theorem duties_snd : (rounds (F := F) x).duties (sndCell d j) 0 = {false} := by
  dsimp only [rounds]; rw [if_pos ⟨rfl, rfl⟩]; exact if_pos (by rw [sndSem_val]; omega)
/-- A receive cell's one duty. -/
theorem duties_rcv : (rounds (F := F) x).duties (rcvCell d j) 0 = {false} := by
  dsimp only [rounds]; rw [if_pos ⟨rfl, rfl⟩]; exact if_pos (by rw [rcvSem_val]; omega)
/-- After the first round there are no duties. -/
theorem duties_later (g : GSem nD τ sig) : ∀ r, 1 ≤ r → (rounds (F := F) x).duties g r = ∅ :=
  fun r hr => by dsimp only [rounds]; exact if_neg fun h => by omega

/-- A barrier duty is one unit. -/
theorem amount_bar (b : Bool) : (rounds (F := F) x).amount (barCell d) 0 b = 1 := rfl
/-- A send duty is a slot's credit. -/
theorem amount_snd (b : Bool) : (rounds (F := F) x).amount (sndCell d j) 0 b = N := rfl
/-- A receive duty is a slot's credit. -/
theorem amount_rcv (b : Bool) : (rounds (F := F) x).amount (rcvCell d j) 0 b = N := rfl

/-- A barrier round comes to two units. -/
theorem expect_bar : (rounds (F := F) x).expect (barCell d) 0 = 2 := by
  unfold Schedule.expect Schedule.amountOf; rw [duties_bar, Finset.sum_pair (by decide), amount_bar, amount_bar]
/-- A send round comes to a slot's credit. -/
theorem expect_snd : (rounds (F := F) x).expect (sndCell d j) 0 = N := by
  unfold Schedule.expect Schedule.amountOf; rw [duties_snd, Finset.sum_singleton, amount_snd]
/-- A receive round comes to a slot's credit. -/
theorem expect_rcv : (rounds (F := F) x).expect (rcvCell d j) 0 = N := by
  unfold Schedule.expect Schedule.amountOf; rw [duties_rcv, Finset.sum_singleton, amount_rcv]

/-- A barrier signal lends the sender's receiving slots. -/
theorem payload_bar (b : Bool) : (rounds (F := F) x).payload (barCell d) 0 b = lent (sender d b) b := rfl
/-- A finished send hands back the share of the slot that was read. -/
theorem payload_snd (b : Bool) : (rounds (F := F) x).payload (sndCell d j) 0 b = slotPts d (srcOf j.val) fullShare.right (slab x d) := by
  dsimp only [rounds]; rw [if_pos (by rw [sndSem_val]; omega), sndSem_val, Nat.add_sub_cancel_left]
/-- A landing hands over the slot it filled, at its final contents. -/
theorem payload_rcv (b : Bool) : (rounds (F := F) x).payload (rcvCell d j) 0 b = slotPts d (dstOf j.val) fullShare (slab x d) := by
  dsimp only [rounds]; rw [if_neg (by rw [rcvSem_val]; omega), rcvSem_val, Nat.add_sub_cancel_left]

/-- What the barrier wait yields. -/
theorem rest_bar : bigSep ((rounds (F := F) x).duties (barCell d) 0 \ ∅) (fun b => (rounds (F := F) x).payload (barCell d) 0 b)
    = iprop(lent (F := F) (across d) false ∗ lent (along d) true) := by
  rw [Finset.sdiff_empty, duties_bar, bigSep_insert (by decide), bigSep_singleton, payload_bar, payload_bar]; rfl
/-- What a send wait yields. -/
theorem rest_snd : bigSep ((rounds (F := F) x).duties (sndCell d j) 0 \ ∅) (fun b => (rounds (F := F) x).payload (sndCell d j) 0 b)
    = slotPts d (srcOf j.val) fullShare.right (slab x d) := by
  rw [Finset.sdiff_empty, duties_snd, bigSep_singleton, payload_snd]
/-- What a receive wait yields. -/
theorem rest_rcv : bigSep ((rounds (F := F) x).duties (rcvCell d j) 0 \ ∅) (fun b => (rounds (F := F) x).payload (rcvCell d j) 0 b)
    = slotPts d (dstOf j.val) fullShare (slab x d) := by
  rw [Finset.sdiff_empty, duties_rcv, bigSep_singleton, payload_rcv]

end Reading

/-! ## What a device owes -/

/-- The credits of the transfers still to be made, the next one outermost. -/
def debt (d : Dev nD) : List (Fin 8) → CellTallies nD τ sig Unit
  | [] => 0
  | j :: l => debt d l + tallyAt (rcvCell (peer d j.val) j) () N

/-- The transfers in the order the kernel makes them. -/
abbrev order : List (Fin 8) := [0, 2, 1, 3, 4, 6, 5, 7]

/-- What a device owes at the start: its eight transfers and its two barrier signals. -/
def owedAll (d : Dev nD) : CellTallies nD τ sig Unit :=
  debt d order + tallyAt (barCell (along d)) () 1 + tallyAt (barCell (across d)) () 1

/-- A single debt is owed to its cell alone. -/
theorem tallyAt_pos {g g' : GSem nD τ sig} {u : Unit} {k : ℕ} (h : 0 < tallyAt g () k g' u) : g' = g := by
  by_contra hn; rw [tallyAt_apply, if_neg (fun h' => hn h'.1)] at h; exact Nat.lt_irrefl 0 h

/-- Transfers owe receive cells alone. -/
theorem debt_pos {d : Dev nD} {l : List (Fin 8)} {g : GSem nD τ sig} {u : Unit} (h : 0 < debt d l g u) :
    ∃ j ∈ l, g = rcvCell (peer d j.val) j := by
  induction l with
  | nil => exact absurd h (Nat.lt_irrefl 0)
  | cons j l ih =>
    rw [debt, Pi.add_apply, Finsupp.add_apply] at h
    rcases Nat.add_pos_iff_pos_or_pos.mp h with h | h
    · obtain ⟨k, hk, e⟩ := ih h; exact ⟨k, List.mem_cons_of_mem _ hk, e⟩
    · exact ⟨j, List.mem_cons_self, tallyAt_pos h⟩

/-- A device owes barrier cells and receive cells alone. -/
theorem owedAll_pos {d : Dev nD} {g : GSem nD τ sig} {u : Unit} (h : 0 < owedAll d g u) :
    (∃ j, g = rcvCell (peer d j.val) j) ∨ g = barCell (along d) ∨ g = barCell (across d) := by
  rw [owedAll, Pi.add_apply, Finsupp.add_apply, Pi.add_apply, Finsupp.add_apply] at h
  rcases Nat.add_pos_iff_pos_or_pos.mp h with h | h
  · rcases Nat.add_pos_iff_pos_or_pos.mp h with h | h
    · obtain ⟨j, -, e⟩ := debt_pos h; exact .inl ⟨j, e⟩
    · exact .inr (.inl (tallyAt_pos h))
  · exact .inr (.inr (tallyAt_pos h))

/-! ## The order of the waits -/

/-- Which cells have levels: those of the devices' main cores. -/
def L (g : GSem nD τ sig) : Finset Unit := if g.1.2 = .tc then {()} else ∅
/-- Barriers come first, then the first round's landings, then the second's. -/
def lv (g : GSem nD τ sig) (_ : Unit) : ℕ := match g.2 with
  | .reg _ => 1
  | .dma s => if s.val < 10 then 0 else if s.val < 14 then 2 else 3
/-- Other cores have none. -/
theorem L_of_ne (g : GSem nD τ sig) (h : g.1.2 ≠ .tc) : L g = ∅ := if_neg h
/-- The main core's cells have one. -/
theorem L_tc (d : Dev nD) (sm : SemLoc sig) : L ((d : Thread nD τ), sm) = {()} := if_pos rfl

/-- A first hop's cell is below a second hop's. -/
theorem lv_rcv (d : Dev nD) (j : Fin 8) : lv (rcvCell d j) () = if j.val < 4 then 2 else 3 := by
  dsimp only [lv]; rw [if_neg (by rw [rcvSem_val]; omega), rcvSem_val]
  by_cases h : j.val < 4
  · rw [if_pos (by omega), if_pos h]
  · rw [if_neg (by omega), if_neg h]
/-- Receive cells are above the barrier. -/
theorem lv_rcv_pos (d : Dev nD) (j : Fin 8) : 1 < lv (rcvCell d j) () := by rw [lv_rcv]; split <;> decide

omit [FloatOps F] in
/-- A wait below level `cut` is allowed while only cells above it are owed. -/
theorem mayWait_of (d : Dev nD) (sm : SemLoc sig) (O : CellTallies nD τ sig Unit) (cut : ℕ) (h : lv ((d : Thread nD τ), sm) () ≤ cut)
    (hO : ∀ g u, 0 < O g u → (∃ e s, g = ((e : Dev nD).tc, s)) ∧ cut < lv g ()) :
    (levAts L lv : sProp 𝕄) ⊢ MayWait (d : Thread nD τ) sm () O :=
  MayOwe.of_cut (L := L) (lev := lv) cut (fun p hp => by rw [Finset.mem_singleton.mp hp, L_tc]; exact Finset.mem_singleton_self _)
    (fun g u hg => by obtain ⟨⟨e, s, rfl⟩, -⟩ := hO g u hg; exact (L_tc e s) ▸ Finset.mem_singleton_self _)
    (fun p hp => by rw [Finset.mem_singleton.mp hp]; exact h)
    (fun g u hg => (hO g u hg).2)

omit [FloatOps F] in
/-- A wait is allowed below every transfer still owed. -/
theorem mayWait_debt (d : Dev nD) (sm : SemLoc sig) (l : List (Fin 8)) (cut : ℕ) (h : lv ((d : Thread nD τ), sm) () ≤ cut)
    (hl : ∀ j ∈ l, cut < if j.val < 4 then 2 else 3) :
    (levAts L lv : sProp 𝕄) ⊢ MayWait (d : Thread nD τ) sm () (debt d l) :=
  mayWait_of d sm _ cut h fun g u hg => by
    obtain ⟨j, hj, rfl⟩ := debt_pos hg
    exact ⟨⟨_, _, rfl⟩, by rw [lv_rcv]; exact hl j hj⟩

omit [FloatOps F] in
/-- A staging semaphore may be waited on while everything is owed. -/
theorem mayWait_stage (d : Dev nD) (q : DmaSem sig) (hq : q.val < 10) (O : CellTallies nD τ sig Unit) (hO : O = owedAll d ∨ O = 0) :
    (levAts L lv : sProp 𝕄) ⊢ MayWait (d : Thread nD τ) (.dma q) () O := by
  rcases hO with rfl | rfl
  · refine mayWait_of d _ _ 0 (by dsimp only [lv]; rw [if_pos hq]) fun g u hg => ?_
    rcases owedAll_pos hg with ⟨j, rfl⟩ | rfl | rfl
    · exact ⟨⟨_, _, rfl⟩, Nat.lt_trans Nat.one_pos (lv_rcv_pos _ _)⟩
    · exact ⟨⟨_, _, rfl⟩, Nat.one_pos⟩
    · exact ⟨⟨_, _, rfl⟩, Nat.one_pos⟩
  · rw [MayWait_zero]; iintro -; iempintro

end Cert.Gather
-- ==== Proof.Steps.lean ====
/-
One rule per kind of effect the kernel makes, at a symbolic slot, transfer and device: loads, stores, a transfer
started, a transfer landed, a transfer left.
-/
module

public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-- The kernel code `p`, run by device `d`, ends in `Q`. -/
abbrev runs (d : Dev nD) {α : Type} (p : Code F α) (Q : α → sProp 𝕄) : sProp 𝕄 :=
  wp frame (wpE (defs₀ (F := F)) 𝒱₀ (d : Thread nD τ) none) Set.univ p Q

variable (x : Dev nD → Vec F S512x512 .bf16)

/-! ## Cells and what is known of them -/

/-- A device's cells: its barrier, its send (`false`) and its receive (`true`) semaphores. -/
abbrev Place : Type := Option (Bool × Fin 8)
/-- The cell of a device's place. -/
def cellAt (p : Dev nD × Place) : GSem nD τ sig := match p.2 with
  | none => barCell p.1
  | some (false, j) => sndCell p.1 j
  | some (true, j) => rcvCell p.1 j

/-- Every cell has its invariant and is in its first round. -/
def known (K : Dev nD × Place → ℕ) : sProp 𝕄 :=
  bigSep Finset.univ fun p => iprop(cellInv ER (rounds x) (K p) (cellAt p) ∗ reached ER (cellAt p) 0)

/-- The invariants may be used again and again. -/
instance known_persistent (K : Dev nD × Place → ℕ) : BI.Persistent (known (F := F) x K) := by unfold known; infer_instance

variable (K : Dev nD × Place → ℕ)

/-- The invariant of one cell. -/
theorem known_at (p : Dev nD × Place) : known x K ⊢ iprop(cellInv ER (rounds x) (K p) (cellAt p) ∗ reached ER (cellAt p) 0) :=
  BI.bigSep_elim (Finset.mem_univ p)

/-- The device owes `O`, whatever it has waited for. -/
def debtor (d : Dev nD) (O : CellTallies nD τ sig Unit) : sProp 𝕄 := iprop(∃ W, owes (d : Thread nD τ) O W)

/-- Transfer `j` may be started; it has been started; it may be received. -/
def ready (d : Dev nD) (j : Fin 8) : sProp 𝕄 :=
  iprop(dutyTok ER (sndCell d j) 0 false ∗ dutyTok ER (rcvCell (peer d j.val) j) 0 false ∗ atPos ER (sndCell d j) 0 ∅ 0)
/-- What is owned of a transfer that has been started. -/
def flying (d : Dev nD) (j : Fin 8) : sProp 𝕄 :=
  iprop(cred (tallyAt (sndCell d j) () N) ∗ atPos ER (sndCell d j) 0 ∅ 0)
/-- What is owned of a landing that has not been waited for. -/
def awaited (d : Dev nD) (j : Fin 8) : sProp 𝕄 :=
  iprop(cred (tallyAt (rcvCell d j) () N) ∗ atPos ER (rcvCell d j) 0 ∅ 0)

/-- The input block, and the rows `q` of the result block. -/
def inPts (d : Dev nD) : sProp 𝕄 := ((d : Thread nD τ).loc cc0_stg0_0) ↦{fullShare} x d
/-- A chunk's rows of the result. -/
def rowPts (d : Dev nD) (q : ℕ) (f : Vec F S512x512 .f32) : sProp 𝕄 := ((d : Thread nD τ).loc cc0_stg1_0) ↦[rowSet q]{fullShare} f
/-- The same at unknown contents. -/
def anyRows (d : Dev nD) (q : ℕ) : sProp 𝕄 := iprop(∃ f : Vec F S512x512 .f32, rowPts d q f)

omit [FloatOps F] in
/-- What a row group holds is only what is written in it. -/
theorem rowPts_congr (d : Dev nD) (q : ℕ) {f g : Vec F S512x512 .f32} (h : ∀ i ∈ rowSet q, f i = g i) :
    rowPts d q f = rowPts d q g := pointsTo_congr h

omit [FloatOps F] in
/-- The whole result block is its four row groups. -/
theorem out_rows (d : Dev nD) (f : Vec F S512x512 .f32) :
    (((d : Thread nD τ).loc cc0_stg1_0) ↦{fullShare} f : sProp 𝕄) = bigSep (Finset.univ : Finset (Fin 4)) fun q => rowPts d q.val f := by
  refine Eq.trans ?_ (pointsTo_biUnion (ℓ := (d : Thread nD τ).loc cc0_stg1_0) Finset.univ (fun q : Fin 4 => rowSet q.val)
    (fun a _ b _ hab => rowSet_disjoint fun e => hab (Fin.ext e)))
  rw [rows_cover]

/-! ## Loads and stores -/

section Memory
variable (d : Dev nD)

/-- Loading a chunk of the input. -/
theorem wp_load_in {α : Type} (Q : α → sProp 𝕄) (q : ℕ) (h : RowInb (128 * q)) {hl : inM.view.LoadsAt (rowRect (128 * q) h).toLoadRect} (k : Vec F S128x512 .bf16 → Code F α) :
    inPts x d ⊢ iprop((inPts x d -∗ runs d (k (chunk x d q)) Q) -∗ runs d (.op (.load inM (rowRect (128 * q) h).toLoadRect hl) k) Q) := by
  rw [← read_chunk x d q h]
  unfold inPts
  iintro H Hk
  iapply (wp_load_rect 𝒱₀ (d : Thread nD τ) none Set.univ (m := inM) (r := rowRect (128 * q) h) (Finset.subset_univ _)) $$ H
  iexact Hk

/-- Loading a slot, at any share. -/
theorem wp_load_slot {α : Type} (Q : α → sProp 𝕄) (a : ℕ) (h : Inb a) (s : PosShare TreeShare) {hl : scrM.view.LoadsAt (slotRect a h).toLoadRect} (k : Vec F S1x128x512 .bf16 → Code F α) :
    slotPts d a s (slab x d)
      ⊢ iprop((slotPts d a s (slab x d) -∗ runs d (k (shapeCast S1x128x512 (slotVal x d a) shapeCasts_S128x512_S1x128x512)) Q)
        -∗ runs d (.op (.load scrM (slotRect a h).toLoadRect hl) k) Q) := by
  rw [← read_slot x d a h]
  unfold slotPts
  iintro H Hk
  iapply (wp_load_rect 𝒱₀ (d : Thread nD τ) none Set.univ (m := scrM) (slotAccess_set a h).subset) $$ H
  iexact Hk

/-- Loading a slot whose contents are not used. -/
theorem wp_load_any {α : Type} (Q : α → sProp 𝕄) (a : ℕ) (h : Inb a) {hl : scrM.view.LoadsAt (slotRect a h).toLoadRect} (k : Code F α) :
    anySlot d a ⊢ iprop((anySlot d a -∗ runs d k Q) -∗ runs d (.op (.load scrM (slotRect a h).toLoadRect hl) fun _ => k) Q) := by
  unfold anySlot
  iintro ⟨%f, H⟩ Hk
  unfold slotPts
  iapply (wp_load_rect 𝒱₀ (d : Thread nD τ) none Set.univ (m := scrM) (slotAccess_set a h).subset) $$ H
  iintro H
  iapply Hk
  iexists f; iexact H

/-- Loading rows of the result that are not used. -/
theorem wp_load_rows {α : Type} (Q : α → sProp 𝕄) (q : ℕ) (h : RowInb (128 * q)) {hl : outM.view.LoadsAt (rowRect (128 * q) h).toLoadRect} (k : Code F α) :
    anyRows d q ⊢ iprop((anyRows d q -∗ runs d k Q) -∗ runs d (.op (.load outM (rowRect (128 * q) h).toLoadRect hl) fun _ => k) Q) := by
  unfold anyRows
  iintro ⟨%f, H⟩ Hk
  unfold rowPts
  iapply (wp_load_rect 𝒱₀ (d : Thread nD τ) none Set.univ (m := outM) (rowAccess_set q h).subset) $$ H
  iintro H
  iapply Hk
  iexists f; iexact H

/-- Storing a slot's final contents. -/
theorem wp_store_slot {α : Type} (Q : α → sProp 𝕄) (a : ℕ) (h : Inb a) (w : Vec F S1x128x512 .bf16) (hw : w = shapeCast S1x128x512 (slotVal x d a) shapeCasts_S128x512_S1x128x512)
    {hx : (scrM.access (slotRect a h)).Stores Finset.univ} {hm} (k : PUnit → Code F α) :
    anySlot d a ⊢ iprop((slotPts d a fullShare (slab x d) -∗ runs d (k ⟨⟩) Q) -∗ runs d (.op (.store scrM (slotRect a h) w Finset.univ hx hm) k) Q) := by
  unfold anySlot
  iintro ⟨%f, H⟩ Hk
  rw [← slotPts_congr d a fullShare (store_slot x d a h f w hw)]
  unfold slotPts
  iapply (wp_store 𝒱₀ (d : Thread nD τ) none Set.univ (m := scrM) (r := slotRect a h) (Mk := Finset.univ) (slotAccess_set a h).subset) $$ H
  iexact Hk

/-- Storing a chunk's rows of the result. -/
theorem wp_store_rows {α : Type} (Q : α → sProp 𝕄) (q : ℕ) (h : RowInb (128 * q)) (w : Vec F S128x512 .f32) (hw : w = rowsOut x d q)
    {hx : (outM.access (rowRect (128 * q) h)).Stores Finset.univ} {hm} (k : PUnit → Code F α) :
    anyRows d q ⊢ iprop((rowPts d q (outAll x d) -∗ runs d (k ⟨⟩) Q) -∗ runs d (.op (.store outM (rowRect (128 * q) h) w Finset.univ hx hm) k) Q) := by
  unfold anyRows
  iintro ⟨%f, H⟩ Hk
  rw [← rowPts_congr d q (store_rows x d q h f w hw)]
  unfold rowPts
  iapply (wp_store 𝒱₀ (d : Thread nD τ) none Set.univ (m := outM) (r := rowRect (128 * q) h) (Mk := Finset.univ) (rowAccess_set q h).subset) $$ H
  iexact Hk

end Memory

/-! ## Transfers -/

section Transfers
variable (d : Dev nD)

/-- A slot a transfer has landed in is held at its final contents. -/
theorem landed_pts (j : Fin 8) (a b : ℕ) (ha : Inb a) (hb : Inb b) (ea : a = srcOf j.val) (eb : b = dstOf j.val) (f : Vec F S16x128x512 .bf16) :
    slotPts (peer d j.val) b fullShare ((slotM b hb).view.write (Elt F) f ((slotM a ha).view.read (Elt F) (slab x d)) Finset.univ)
      = slotPts (peer d j.val) (dstOf j.val) fullShare (slab x (peer d j.val)) := by
  have e := land_slot x (peer d j.val) j.isLt a b ha hb ea eb f
  rw [peer_peer] at e
  rw [← eb]
  exact slotPts_congr (peer d j.val) b fullShare e

/-- Starting transfer `j`: the half share of the source and the partner's slot go, what is owed shrinks by `j`. -/
theorem wp_start {α : Type} (Q : α → sProp 𝕄) (n : Dev nD) (j : Fin 8) (hn : n = peer d j.val) (a b : ℕ) (ha : Inb a) (hb : Inb b) (ea : a = srcOf j.val) (eb : b = dstOf j.val)
    (l : List (Fin 8)) {hsc hsrc hdst hsem} (k : PUnit → Code F α) :
    iprop(known x K ∗ debtor (F := F) d (debt d (j :: l)) ∗ ready d j ∗ slotPts d a fullShare.right (slab x d) ∗ anySlot (F := F) (peer d j.val) b)
      ⊢ iprop(((debtor (F := F) d (debt d l) ∗ flying d j) -∗ runs d (k ⟨⟩) Q)
        -∗ runs d (.op (.enqueueDma (slotM a ha) (.remote (Dev.tc n : Thread nD τ) (slotM b hb) (.dma (sndSem j)) hsc) (.dma (rcvSem j)) hsrc hdst hsem) k) Q) := by
  subst hn
  unfold debtor ready flying anySlot
  iintro ⟨#HI, ⟨%W, HO⟩, ⟨HtS, HtR, Hat⟩, Hs, ⟨%f, Hd⟩⟩ Hk
  ihave #HS := (known_at x K (d, some (false, j))) $$ HI
  ihave #HR := (known_at x K (peer d j.val, some (true, j))) $$ HI
  icases HS with ⟨#HS, #HS0⟩
  icases HR with ⟨#HR, #HR0⟩
  unfold slotPts
  rw [← slotM_set a ha, ← slotM_set b hb]
  iapply (Rounds.wp_send_pointsTo 𝒱₀ ER (rounds x) (d : Thread nD τ) none (κ₁ := K (d, some (false, j))) (κ₂ := K (peer d j.val, some (true, j)))
    (c' := (peer d j.val : Thread nD τ)) (src := slotM a ha) (dst := slotM b hb) (sS := .dma (sndSem j)) (sem := .dma (rcvSem j))
    (q := fullShare.right) (fs := slab x d) (r₁ := 0) (r₂ := 0) (d₁ := false) (d₂ := false) (fd := f)
    (by rw [duties_snd]; exact Finset.mem_singleton_self _) (by rw [duties_rcv]; exact Finset.mem_singleton_self _)
    () () N (slot_credit b hb) (amount_snd x d j false) (amount_rcv x (peer d j.val) j false) (debt d l) rfl (W := W)
    (by rw [payload_snd, ← ea, slotM_set a ha]; exact BI.Entails.refl _)
    (by rw [payload_rcv, slotM_set b hb]; exact Entails.of_eq (landed_pts x d j a b ha hb ea eb f))) $$ [Hs Hd HO HtS HtR]
  · isplitr; · iexact HS
    isplitr; · iexact HR
    isplitl [Hs]; · iexact Hs
    isplitl [Hd]; · iexact Hd
    isplitl [HO]; · iexact HO
    isplitl [HtS]; · iexact HtS
    isplitr; · iexact HS0
    isplitl [HtR]; · iexact HtR
    iexact HR0
  iintro ⟨Hc, HO⟩
  iapply Hk
  isplitl [HO]
  · iexists W; iexact HO
  isplitl [Hc] <;> iassumption

/-- Waiting for transfer `j` to land: its slot comes at its final contents, and the semaphore is back at zero. -/
theorem wp_landed {α : Type} (Q : α → sProp 𝕄) (j : Fin 8) (a b c : ℕ) (ha : Inb a) (hb : Inb b) (ec : c = dstOf j.val) (l : List (Fin 8))
    (hl : ∀ i ∈ l, (if j.val < 4 then 2 else 3) < if i.val < 4 then 2 else 3) {hsrc hdst} (k : PUnit → Code F α) :
    iprop(known x K ∗ levAts L lv ∗ debtor (F := F) d (debt d l) ∗ awaited d j)
      ⊢ iprop(((debtor (F := F) d (debt d l) ∗ slotPts d c fullShare (slab x d) ∗ semVal (rcvCell d j) 0) -∗ runs d (k ⟨⟩) Q)
        -∗ runs d (.op (.waitDma2 (rcvSem j) (slotM a ha) (slotM b hb) hsrc hdst) k) Q) := by
  unfold debtor awaited
  iintro ⟨#HI, #Hlev, ⟨%W, HO⟩, ⟨Hc, Hat⟩⟩ Hk
  ihave #HR := (known_at x K (d, some (true, j))) $$ HI
  icases HR with ⟨#HR, -⟩
  iapply (Rounds.wp_wait_rest_token 𝒱₀ ER (rounds x) (d : Thread nD τ) none (κ := K (d, some (true, j)))
      (wpE_waitDma2_eq 𝒱₀ (d : Thread nD τ) none Set.univ) (Set.mem_univ _) () (O := debt d l) (W := W) (R := 0) (m := 0) (T := ∅)
      (by rw [Nat.zero_add, expect_rcv])) $$ [Hc HO Hat]
  · isplitr; · iexact HR
    isplitl [Hc]; · iexact Hc
    isplitl [HO]; · iexact HO
    isplitr; · iapply (mayWait_debt d _ l _ (lv_rcv d j).le hl); iexact Hlev
    iexact Hat
  iintro ⟨HO, Hat, -, Hpay⟩
  ihave Hs := (Entails.of_eq (rest_rcv x d j)) $$ Hpay
  imod (Rounds.cell_close ER (rounds x) (Set.mem_univ (K (d, some (true, j)))) (fun h => h) (R := 0 + 1) (duties_later x (rcvCell d j))) $$ [Hat] with Hz
  · isplitr; · iexact HR
    iexact Hat
  iapply Hk
  rw [ec]
  isplitl [HO]
  · iexists _; iexact HO
  isplitl [Hs] <;> iassumption

/-- Waiting for transfer `j` to have left: the half share of its source comes back, and the semaphore is back at zero. -/
theorem wp_left {α : Type} (Q : α → sProp 𝕄) (j : Fin 8) (a b c : ℕ) (ha : Inb a) (hb : Inb b) (ec : c = srcOf j.val) {hsrc hdst} (k : PUnit → Code F α) :
    iprop(known x K ∗ debtor (F := F) d (debt d []) ∗ flying d j)
      ⊢ iprop(((debtor (F := F) d (debt d []) ∗ slotPts d c fullShare.right (slab x d) ∗ semVal (sndCell d j) 0) -∗ runs d (k ⟨⟩) Q)
        -∗ runs d (.op (.waitDma2 (sndSem j) (slotM a ha) (slotM b hb) hsrc hdst) k) Q) := by
  unfold debtor flying
  iintro ⟨#HI, ⟨%W, HO⟩, ⟨Hc, Hat⟩⟩ Hk
  ihave #HS := (known_at x K (d, some (false, j))) $$ HI
  icases HS with ⟨#HS, -⟩
  iapply (Rounds.wp_wait_rest_token 𝒱₀ ER (rounds x) (d : Thread nD τ) none (κ := K (d, some (false, j)))
      (wpE_waitDma2_eq 𝒱₀ (d : Thread nD τ) none Set.univ) (Set.mem_univ _) () (O := debt d []) (W := W) (R := 0) (m := 0) (T := ∅)
      (by rw [Nat.zero_add, expect_snd])) $$ [Hc HO Hat]
  · isplitr; · iexact HS
    isplitl [Hc]; · iexact Hc
    isplitl [HO]; · iexact HO
    isplitr; · rw [debt, MayWait_zero]; iempintro
    iexact Hat
  iintro ⟨HO, Hat, -, Hpay⟩
  ihave Hs := (Entails.of_eq (rest_snd x d j)) $$ Hpay
  imod (Rounds.cell_close ER (rounds x) (Set.mem_univ (K (d, some (false, j)))) (fun h => h) (R := 0 + 1) (duties_later x (sndCell d j))) $$ [Hat] with Hz
  · isplitr; · iexact HS
    iexact Hat
  iapply Hk
  rw [ec]
  isplitl [HO]
  · iexists _; iexact HO
  isplitl [Hs] <;> iassumption

end Transfers

end Cert.Gather
-- ==== Proof.Rules.lean ====
/-
What each block of the kernel does to the resources of one chunk. A chunk goes through five stages: `fresh`, `put`
(its slot is written and sent), `added` (the pair sum is written and sent), `written` (the result rows are written) and
`done` (its transfers have left).
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The transfers of a chunk -/

set_option backward.proofsInPublic true in
/-- The transfer of chunk `q` itself, and the transfer of its pair sum. -/
abbrev hop₁ (q : ℕ) (h : q < 4) : Fin 8 := ⟨q, by omega⟩
set_option backward.proofsInPublic true in
/-- The second hop of chunk `q`. -/
abbrev hop₂ (q : ℕ) (h : q < 4) : Fin 8 := ⟨4 + q, by omega⟩

/-- Where the first hop reads. -/
theorem src_hop₁ {q : ℕ} (h : q < 4) : q = srcOf (hop₁ q h).val := (if_pos h).symm
/-- Where the first hop writes. -/
theorem dst_hop₁ {q : ℕ} (h : q < 4) : 4 + q = dstOf (hop₁ q h).val := (if_pos h).symm
/-- Where the second hop reads. -/
theorem src_hop₂ {q : ℕ} (h : q < 4) : 8 + q = srcOf (hop₂ q h).val :=
  (show 8 + q = 4 + (4 + q) by omega).trans (if_neg (show ¬ 4 + q < 4 by omega)).symm
/-- Where the second hop writes. -/
theorem dst_hop₂ {q : ℕ} (h : q < 4) : 12 + q = dstOf (hop₂ q h).val :=
  (show 12 + q = 8 + (4 + q) by omega).trans (if_neg (show ¬ 4 + q < 4 by omega)).symm

variable (x : Dev nD → Vec F S512x512 .bf16) (K : Dev nD × Place → ℕ)

/-! ## The stages of a chunk -/

section Stages
variable (d : Dev nD) (q : ℕ) (h : q < 4)

/-- What the first send, the addition and the second send, and the final addition each need beside the earlier stages. -/
def toPut : sProp 𝕄 := iprop(anySlot (F := F) d q ∗ anySlot (peer d q) (4 + q) ∗ ready d (hop₁ q h))
/-- What the second step of chunk `q` needs. -/
def toAdd : sProp 𝕄 := iprop(awaited (F := F) d (hop₁ q h) ∗ anySlot d (8 + q) ∗ anySlot (peer d (4 + q)) (12 + q) ∗ ready d (hop₂ q h))
/-- What the third step needs. -/
def toWrite : sProp 𝕄 := iprop(awaited (F := F) d (hop₂ q h) ∗ anyRows d q)

/-- What each block leaves behind. -/
def hasPut : sProp 𝕄 := iprop(slotPts d q fullShare.left (slab x d) ∗ flying d (hop₁ q h))
/-- What the second step leaves. -/
def hasAdded : sProp 𝕄 :=
  iprop(slotPts d (4 + q) fullShare (slab x d) ∗ semVal (rcvCell d (hop₁ q h)) 0 ∗ slotPts d (8 + q) fullShare.left (slab x d) ∗ flying d (hop₂ q h))
/-- What the third step leaves. -/
def hasWritten : sProp 𝕄 :=
  iprop(slotPts d (12 + q) fullShare (slab x d) ∗ semVal (rcvCell d (hop₂ q h)) 0 ∗ rowPts d q (outAll x d))

/-- A chunk before its first step, -/
def fresh : sProp 𝕄 := iprop(toPut (F := F) d q h ∗ toAdd d q h ∗ toWrite d q h)
/-- after its first, -/
def put : sProp 𝕄 := iprop(hasPut x d q h ∗ toAdd d q h ∗ toWrite d q h)
/-- after its second, -/
def added : sProp 𝕄 := iprop(hasPut x d q h ∗ hasAdded x d q h ∗ toWrite d q h)
/-- after its third, -/
def written : sProp 𝕄 := iprop(hasPut x d q h ∗ hasAdded x d q h ∗ hasWritten x d q h)
/-- and at the end, with all its slots held whole. -/
def done : sProp 𝕄 :=
  iprop((slotPts d q fullShare (slab x d) ∗ slotPts d (4 + q) fullShare (slab x d) ∗ slotPts d (8 + q) fullShare (slab x d) ∗ slotPts d (12 + q) fullShare (slab x d))
    ∗ (semVal (sndCell d (hop₁ q h)) 0 ∗ semVal (sndCell d (hop₂ q h)) 0 ∗ semVal (rcvCell d (hop₁ q h)) 0 ∗ semVal (rcvCell d (hop₂ q h)) 0)
    ∗ rowPts d q (outAll x d))

end Stages

/-! ## The blocks -/

section Rules
variable (d : Dev nD)

/-- The handshake: both neighbours' slots are lent, both of one's own loans are made. -/
theorem meetUp_rule (n₁ n₂ : Dev nD) (h₁ : n₁ = across d) (h₂ : n₂ = along d) (Q : PUnit → sProp 𝕄) :
    iprop((known x K ∗ levAts L lv ∗ debtor (F := F) d (owedAll d) ∗ (lent (F := F) d false ∗ lent d true)
        ∗ (dutyTok ER (barCell (across d)) 0 false ∗ dutyTok ER (barCell (along d)) 0 true ∗ atPos ER (barCell d) 0 ∅ 0 ∗ cred (tallyAt (barCell d) () 2)))
        ∗ ((debtor (F := F) d (debt d order) ∗ (lent (F := F) (across d) false ∗ lent (along d) true) ∗ semVal (barCell d) 0) -∗ Q ⟨⟩))
      ⊢ runs d (meetUp (F := F) n₁ n₂) Q := by
  subst h₁ h₂
  unfold meetUp debtor
  simp only [runs, semSignalWord, semWaitWord, Prog.lift, Prog.bind_op, Prog.bind_ret, Prog.pure_eq_ret]
  iintro ⟨⟨#HI, #Hlev, ⟨%W, HO⟩, ⟨HlF, HlT⟩, ⟨HtF, HtT, Hat, Hc⟩⟩, Hk⟩
  ihave #HB := (known_at x K (d, none)) $$ HI
  ihave #HB₁ := (known_at x K (across d, none)) $$ HI
  ihave #HB₂ := (known_at x K (along d, none)) $$ HI
  icases HB with ⟨#HB, -⟩
  icases HB₁ with ⟨#HB₁, #HR₁⟩
  icases HB₂ with ⟨#HB₂, #HR₂⟩
  iapply (Rounds.wp_signal 𝒱₀ ER (rounds x) (d : Thread nD τ) none (dst := (across d : Thread nD τ)) (κ := K (across d, none))
      (d := false) (by rw [duties_bar]; decide) ((amount_bar x (across d) false).trans (by decide)) ()
      (debt d order + tallyAt (barCell (along d)) () 1) rfl) $$ [HO HtF HlF]
  · isplitr; · iexact HB₁
    isplitl [HO]; · iexact HO
    isplitl [HtF]; · iexact HtF
    isplitl [HlF]
    · rw [payload_bar]; unfold sender; rw [across_across]; iexact HlF
    iexact HR₁
  iintro HO
  iapply (Rounds.wp_signal 𝒱₀ ER (rounds x) (d : Thread nD τ) none (dst := (along d : Thread nD τ)) (κ := K (along d, none))
      (d := true) (by rw [duties_bar]; decide) ((amount_bar x (along d) true).trans (by decide)) ()
      (debt d order) rfl) $$ [HO HtT HlT]
  · isplitr; · iexact HB₂
    isplitl [HO]; · iexact HO
    isplitl [HtT]; · iexact HtT
    isplitl [HlT]
    · rw [payload_bar]; unfold sender; rw [along_along]; iexact HlT
    iexact HR₂
  iintro HO
  iapply (Rounds.wp_wait_rest_token 𝒱₀ ER (rounds x) (d : Thread nD τ) none (κ := K (d, none))
      (wpE_semWait_eq 𝒱₀ (d : Thread nD τ) none Set.univ) (Set.mem_univ _) () (O := debt d order) (W := W) (R := 0) (m := 0) (T := ∅)
      (by rw [expect_bar]; decide)) $$ [Hc HO Hat]
  · isplitr; · iexact HB
    isplitl [Hc]; · iexact Hc
    isplitl [HO]; · iexact HO
    isplitr; · iapply (mayWait_debt d (.reg barS) order 1 (Nat.le_refl 1) (by decide)); iexact Hlev
    iexact Hat
  iintro ⟨HO, Hat, -, Hpay⟩
  ihave Hl := (Entails.of_eq (rest_bar x d)) $$ Hpay
  imod (Rounds.cell_close ER (rounds x) (Set.mem_univ (K (d, none))) (fun h => h) (R := 0 + 1) (duties_later x (barCell d))) $$ [Hat] with Hz
  · isplitr; · iexact HB
    iexact Hat
  rw [wp_ret]; imodintro
  iapply Hk
  isplitl [HO]
  · iexists _; iexact HO
  isplitl [Hl] <;> iassumption

variable (q : ℕ) (h : q < 4)

/-- Writing chunk `q` in its slot and starting its transfer. -/
theorem putAndSend_rule (n : Dev nD) (hn : n = peer d q) (l : List (Fin 8)) (Q : PUnit → sProp 𝕄) :
    iprop((known x K ∗ debtor (F := F) d (debt d (hop₁ q h :: l)) ∗ inPts x d ∗ fresh (F := F) d q h)
        ∗ ((debtor (F := F) d (debt d l) ∗ inPts x d ∗ put x d q h) -∗ Q ⟨⟩))
      ⊢ runs d (putAndSend (F := F) n q h) Q := by
  unfold putAndSend fresh put toPut hasPut
  simp only [runs, Prog.lift, Prog.bind_op, Prog.bind_ret, Prog.pure_eq_ret]
  iintro ⟨⟨#HI, HO, Hin, ⟨⟨Hs, Hd, Hr⟩, HA, HW⟩⟩, Hk⟩
  iapply (wp_load_in x d Q q _ _) $$ Hin; iintro Hin
  iapply (wp_load_any d Q q _ _) $$ Hs; iintro Hs
  iapply (wp_store_slot x d Q q _ _ ((pay_chunk _).trans (by rw [slotVal_own x d h])) _) $$ Hs; iintro Hs
  ihave Hs := ((slotPts_halves d q (slab x d)).1) $$ Hs
  icases Hs with ⟨HsL, HsR⟩
  iapply (wp_start x K d Q n (hop₁ q h) hn q (4 + q) _ _ (src_hop₁ h) (dst_hop₁ h) l _) $$ [HO Hr HsR Hd]
  · isplitr; · iexact HI
    isplitl [HO]; · iexact HO
    isplitl [Hr]; · iexact Hr
    isplitl [HsR] <;> iassumption
  iintro ⟨HO, Hf⟩
  unfold runs; rw [wp_ret]; imodintro
  iapply Hk
  isplitl [HO]; · iexact HO
  isplitl [Hin]; · iexact Hin
  isplitl [HsL Hf]
  · isplitl [HsL] <;> iassumption
  isplitl [HA] <;> iassumption

/-- Receiving the partner's chunk, adding it, and starting the transfer of the sum. -/
theorem addAndSend_rule (n : Dev nD) (hn : n = peer d (4 + q)) (l : List (Fin 8)) (hl : ∀ i ∈ l, 4 ≤ i.val) (Q : PUnit → sProp 𝕄) :
    iprop((known x K ∗ levAts L lv ∗ debtor (F := F) d (debt d (hop₂ q h :: l)) ∗ put x d q h)
        ∗ ((debtor (F := F) d (debt d l) ∗ added x d q h) -∗ Q ⟨⟩))
      ⊢ runs d (addAndSend (F := F) n q h) Q := by
  unfold addAndSend put added toAdd hasPut hasAdded
  simp only [runs, Prog.lift, Prog.bind_op, Prog.bind_ret, Prog.pure_eq_ret]
  iintro ⟨⟨#HI, #Hlev, HO, ⟨⟨HsL, Hf⟩, ⟨Hw, Ht, Hd, Hr⟩, HW⟩⟩, Hk⟩
  iapply (wp_landed x K d Q (hop₁ q h) q (4 + q) (4 + q) _ _ (dst_hop₁ h) (hop₂ q h :: l)
    (fun i hi => by
      have hi4 : 4 ≤ i.val := by
        rcases List.mem_cons.mp hi with rfl | hi
        · show 4 ≤ 4 + q; omega
        · exact hl i hi
      rw [if_pos h, if_neg (by omega)]; decide) _) $$ [HO Hw]
  · isplitr; · iexact HI
    isplitr; · iexact Hlev
    isplitl [HO] <;> iassumption
  iintro ⟨HO, Hg, Hz⟩
  iapply (wp_load_slot x d Q q _ _ _) $$ HsL; iintro HsL
  iapply (wp_load_slot x d Q (4 + q) _ _ _) $$ Hg; iintro Hg
  iapply (wp_load_any d Q (8 + q) _ _) $$ Ht; iintro Ht
  iapply (wp_store_slot x d Q (8 + q) _ _ ((pay_pair _ _).trans (by rw [slotVal_own x d h, slotVal_got x d h, slotVal_sum x d h]; rfl)) _) $$ Ht; iintro Ht
  ihave Ht := ((slotPts_halves d (8 + q) (slab x d)).1) $$ Ht
  icases Ht with ⟨HtL, HtR⟩
  iapply (wp_start x K d Q n (hop₂ q h) hn (8 + q) (12 + q) _ _ (src_hop₂ h) (dst_hop₂ h) l _) $$ [HO Hr HtR Hd]
  · isplitr; · iexact HI
    isplitl [HO]; · iexact HO
    isplitl [Hr]; · iexact Hr
    isplitl [HtR] <;> iassumption
  iintro ⟨HO, Hf'⟩
  unfold runs; rw [wp_ret]; imodintro
  iapply Hk
  isplitl [HO]; · iexact HO
  isplitl [HsL Hf]
  · isplitl [HsL] <;> iassumption
  isplitl [Hg Hz HtL Hf']
  · isplitl [Hg]; · iexact Hg
    isplitl [Hz]; · iexact Hz
    isplitl [HtL] <;> iassumption
  iexact HW

/-- Receiving the partner's sum, adding it, and writing the rows of the result. -/
theorem addAndWrite_rule (Q : PUnit → sProp 𝕄) :
    iprop((known x K ∗ levAts L lv ∗ debtor (F := F) d (debt d []) ∗ added x d q h)
        ∗ ((debtor (F := F) d (debt d []) ∗ written x d q h) -∗ Q ⟨⟩))
      ⊢ runs d (addAndWrite (F := F) q h) Q := by
  unfold addAndWrite added written hasAdded toWrite hasWritten
  simp only [runs, Prog.lift, Prog.bind_op, Prog.bind_ret, Prog.pure_eq_ret]
  iintro ⟨⟨#HI, #Hlev, HO, ⟨HP, ⟨Hg, Hz, Ht, Hf⟩, ⟨Hw, Ho⟩⟩⟩, Hk⟩
  iapply (wp_landed x K d Q (hop₂ q h) (8 + q) (12 + q) (12 + q) _ _ (dst_hop₂ h) [] (fun i hi => absurd hi List.not_mem_nil) _) $$ [HO Hw]
  · isplitr; · iexact HI
    isplitr; · iexact Hlev
    isplitl [HO] <;> iassumption
  iintro ⟨HO, Hs, Hz'⟩
  iapply (wp_load_slot x d Q (8 + q) _ _ _) $$ Ht; iintro Ht
  iapply (wp_load_slot x d Q (12 + q) _ _ _) $$ Hs; iintro Hs
  iapply (wp_load_rows d Q q _ _) $$ Ho; iintro Ho
  iapply (wp_store_rows x d Q q _ _ ((pay_final _ _).trans (by rw [slotVal_sum x d h, slotVal_gotSum x d h]; rfl)) _) $$ Ho; iintro Ho
  unfold runs; rw [wp_ret]; imodintro
  iapply Hk
  isplitl [HO]; · iexact HO
  isplitl [HP]; · iexact HP
  isplitl [Hg Hz Ht Hf]
  · isplitl [Hg]; · iexact Hg
    isplitl [Hz]; · iexact Hz
    isplitl [Ht] <;> iassumption
  isplitl [Hs]; · iexact Hs
  isplitl [Hz'] <;> iassumption

/-- Waiting for the chunk's two transfers to have left. -/
theorem drain_rule (Q : PUnit → sProp 𝕄) :
    iprop((known x K ∗ debtor (F := F) d (debt d []) ∗ written x d q h)
        ∗ ((debtor (F := F) d (debt d []) ∗ done x d q h) -∗ Q ⟨⟩))
      ⊢ runs d (drain (F := F) q h) Q := by
  unfold drain written done hasPut hasAdded hasWritten
  simp only [runs, Prog.lift, Prog.bind_op, Prog.bind_ret, Prog.pure_eq_ret]
  iintro ⟨⟨#HI, HO, ⟨⟨Hs, Hf⟩, ⟨Hg, Hz, Ht, Hf'⟩, ⟨Hu, Hz', Ho⟩⟩⟩, Hk⟩
  iapply (wp_left x K d Q (hop₁ q h) (4 + q) q q _ _ (src_hop₁ h) _) $$ [HO Hf]
  · isplitr; · iexact HI
    isplitl [HO] <;> iassumption
  iintro ⟨HO, HsR, Hy⟩
  iapply (wp_left x K d Q (hop₂ q h) (12 + q) (8 + q) (8 + q) _ _ (src_hop₂ h) _) $$ [HO Hf']
  · isplitr; · iexact HI
    isplitl [HO] <;> iassumption
  iintro ⟨HO, HtR, Hy'⟩
  ihave Hs := ((slotPts_halves d q (slab x d)).2) $$ [Hs HsR]
  · isplitl [Hs] <;> iassumption
  ihave Ht := ((slotPts_halves d (8 + q) (slab x d)).2) $$ [Ht HtR]
  · isplitl [Ht] <;> iassumption
  unfold runs; rw [wp_ret]; imodintro
  iapply Hk
  isplitl [HO]; · iexact HO
  isplitl [Hs Hg Ht Hu]
  · isplitl [Hs]; · iexact Hs
    isplitl [Hg]; · iexact Hg
    isplitl [Ht] <;> iassumption
  isplitl [Hy Hy' Hz Hz']
  · isplitl [Hy]; · iexact Hy
    isplitl [Hy']; · iexact Hy'
    isplitl [Hz] <;> iassumption
  iexact Ho

end Rules

end Cert.Gather
-- ==== Proof.Body.lean ====
/-
The whole body on one device: from the four fresh chunks to the four finished ones.
-/
module

public import proofs.«01_k».proof.Proof.Rules

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the chunks -/

omit [FloatOps F] in
/-- A sum over `4 * n` things is a sum over `n` rounds of the four chunks. -/
theorem by_round (n : ℕ) (Φ : ℕ → sProp 𝕄) :
    bigSep (Finset.univ : Finset (Fin (n * 4))) (fun a => Φ a.val) = bigSep (Finset.univ : Finset (Fin n)) fun r => bigSep (Finset.univ : Finset (Fin 4)) fun q => Φ (q.val + 4 * r.val) := by
  rw [bigSep_univ_equiv finProdFinEquiv, bigSep_univ_prod]; rfl

omit [FloatOps F] in
/-- The four chunks, one by one. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The sixteen slots by chunk. -/
theorem slots_by_chunk (Φ : ℕ → sProp 𝕄) :
    bigSep (Finset.univ : Finset (Fin 16)) (fun a => Φ a.val)
      = bigSep (Finset.univ : Finset (Fin 4)) fun q => iprop(Φ q.val ∗ Φ (4 + q.val) ∗ Φ (8 + q.val) ∗ Φ (12 + q.val)) := by
  rw [bigSep_sep', bigSep_sep', bigSep_sep']
  refine (by_round 4 Φ).trans ((four _).trans ?_)
  simp only [Nat.add_comm]; rfl

omit [FloatOps F] in
/-- The eight transfers by chunk. -/
theorem hops_by_chunk (Φ : Fin 8 → sProp 𝕄) :
    bigSep (Finset.univ : Finset (Fin 8)) Φ
      = bigSep (Finset.univ : Finset (Fin 4)) fun q => iprop(Φ (hop₁ q.val q.isLt) ∗ Φ (hop₂ q.val q.isLt)) := by
  rw [bigSep_sep', bigSep_univ_equiv (finProdFinEquiv : Fin 2 × Fin 4 ≃ Fin 8), bigSep_univ_prod]
  refine (bigSep_univ_eq_bigSepL [(0 : Fin 2), 1] (by decide) (by decide) _).trans ?_
  refine congrArg₂ _ (bigSep_congr fun q _ => congrArg Φ ?_) (bigSep_congr fun q _ => congrArg Φ ?_) <;>
  · apply Fin.ext; simp [finProdFinEquiv, Nat.add_comm]

variable (x : Dev nD → Vec F S512x512 .bf16) (K : Dev nD × Place → ℕ) (d : Dev nD)

/-! ## What a chunk starts with -/

/-- What a device has of its own for chunk `q`, and what it is lent for it. -/
def own (q : ℕ) (h : q < 4) : sProp 𝕄 :=
  iprop((anySlot (F := F) d q ∗ anySlot d (8 + q)) ∗ (ready d (hop₁ q h) ∗ ready d (hop₂ q h)) ∗ (awaited d (hop₁ q h) ∗ awaited d (hop₂ q h)) ∗ anyRows d q)
/-- What the neighbours lend for chunk `q`: the slots that its two hops land in. -/
def loan (q : ℕ) : sProp 𝕄 := iprop(anySlot (F := F) (peer d q) (4 + q) ∗ anySlot (peer d (4 + q)) (12 + q))

omit [FloatOps F] in
/-- The two neighbours' loans are the four chunks' loans. -/
theorem loans : iprop(lent (F := F) (across d) false ∗ lent (along d) true) ⊢ (iprop(loan d 0 ∗ loan d 1 ∗ loan d 2 ∗ loan d 3) : sProp 𝕄) := by
  unfold lent loan
  iintro ⟨⟨H4, H5, H14, H15⟩, ⟨H6, H7, H12, H13⟩⟩
  isplitl [H4 H12]
  · isplitl [H4]; · iexact H4
    iexact H12
  isplitl [H5 H13]
  · isplitl [H5]; · iexact H5
    iexact H13
  isplitl [H6 H14]
  · isplitl [H6]; · iexact H6
    iexact H14
  isplitl [H7]; · iexact H7
  iexact H15

omit [FloatOps F] in
/-- With its loan, a chunk is ready. -/
theorem fresh_intro (q : ℕ) (h : q < 4) : iprop(own (F := F) d q h ∗ loan d q) ⊢ fresh d q h := by
  unfold own loan fresh toPut toAdd toWrite
  iintro ⟨⟨⟨Hs, Ht⟩, ⟨Hr, Hr'⟩, ⟨Hw, Hw'⟩, Ho⟩, ⟨Hl, Hl'⟩⟩
  isplitl [Hs Hl Hr]
  · isplitl [Hs]; · iexact Hs
    isplitl [Hl] <;> iassumption
  isplitl [Hw Ht Hl' Hr']
  · isplitl [Hw]; · iexact Hw
    isplitl [Ht]; · iexact Ht
    isplitl [Hl'] <;> iassumption
  isplitl [Hw'] <;> iassumption

/-! ## The body -/

/-- A piece of code followed by another: run the first, then the second. -/
theorem runs_bind {α β : Type} (p : Code F α) (k : α → Code F β) (Q : β → sProp 𝕄) :
    runs d (p >>= k) Q = runs d p fun v => runs d (k v) Q := wp_bind ..

set_option maxRecDepth 4000 in
/-- The body: from what a device starts with, every chunk ends finished and nothing is owed. -/
theorem body_rule (Q : PUnit → sProp 𝕄) :
    iprop((known x K ∗ levAts L lv ∗ debtor (F := F) d (owedAll d) ∗ inPts x d ∗ (lent (F := F) d false ∗ lent d true)
        ∗ (dutyTok ER (barCell (across d)) 0 false ∗ dutyTok ER (barCell (along d)) 0 true ∗ atPos ER (barCell d) 0 ∅ 0 ∗ cred (tallyAt (barCell d) () 2))
        ∗ bigSep (Finset.univ : Finset (Fin 4)) fun q => own d q.val q.isLt)
        ∗ ((debtor (F := F) d 0 ∗ inPts x d ∗ semVal (barCell d) 0 ∗ bigSep (Finset.univ : Finset (Fin 4)) fun q => done x d q.val q.isLt) -∗ Q ⟨⟩))
      ⊢ runs d (blocks (F := F)) Q := by
  rw [four, four]
  unfold blocks
  simp only [runs_bind]
  show _ ⊢ runs d (.op .deviceId .ret) _
  unfold runs
  rw [wp_deviceId, wp_ret]
  iintro ⟨⟨#HI, #Hlev, HO, Hin, Hl, Hb, ⟨H0, H1, H2, H3⟩⟩, Hk⟩
  imodintro
  iapply (meetUp_rule x K d _ _ (sig_across d) (sig_along d) _)
  isplitl [HO Hl Hb]
  · isplitr; · iexact HI
    isplitr; · iexact Hlev
    isplitl [HO]; · iexact HO
    isplitl [Hl] <;> iassumption
  iintro ⟨HO, Hl, Hz⟩
  ihave Hl := (loans (F := F) d) $$ Hl
  icases Hl with ⟨L0, L1, L2, L3⟩
  ihave H0 := (fresh_intro (F := F) d 0 (by decide)) $$ [H0 L0]
  · isplitl [H0]; · iexact H0
    iexact L0
  ihave H1 := (fresh_intro (F := F) d 1 (by decide)) $$ [H1 L1]
  · isplitl [H1]; · iexact H1
    iexact L1
  ihave H2 := (fresh_intro (F := F) d 2 (by decide)) $$ [H2 L2]
  · isplitl [H2]; · iexact H2
    iexact L2
  ihave H3 := (fresh_intro (F := F) d 3 (by decide)) $$ [H3 L3]
  · isplitl [H3]; · iexact H3
    iexact L3
  iapply (putAndSend_rule x K d 0 _ _ (to_0 d) [2, 1, 3, 4, 6, 5, 7] _)
  isplitl [HO Hin H0]
  · isplitr; · iexact HI
    isplitl [HO]; · iexact HO
    isplitl [Hin] <;> iassumption
  iintro ⟨HO, Hin, H0⟩
  iapply (putAndSend_rule x K d 2 _ _ (to_2 d) [1, 3, 4, 6, 5, 7] _)
  isplitl [HO Hin H2]
  · isplitr; · iexact HI
    isplitl [HO]; · iexact HO
    isplitl [Hin] <;> iassumption
  iintro ⟨HO, Hin, H2⟩
  iapply (putAndSend_rule x K d 1 _ _ (to_1 d) [3, 4, 6, 5, 7] _)
  isplitl [HO Hin H1]
  · isplitr; · iexact HI
    isplitl [HO]; · iexact HO
    isplitl [Hin] <;> iassumption
  iintro ⟨HO, Hin, H1⟩
  iapply (putAndSend_rule x K d 3 _ _ (to_3 d) [4, 6, 5, 7] _)
  isplitl [HO Hin H3]
  · isplitr; · iexact HI
    isplitl [HO]; · iexact HO
    isplitl [Hin] <;> iassumption
  iintro ⟨HO, Hin, H3⟩
  iapply (addAndSend_rule x K d 0 _ _ (to_4 d) [6, 5, 7] (by decide) _)
  isplitl [HO H0]
  · isplitr; · iexact HI
    isplitr; · iexact Hlev
    isplitl [HO]; · iexact HO
    iexact H0
  iintro ⟨HO, H0⟩
  iapply (addAndSend_rule x K d 2 _ _ (to_6 d) [5, 7] (by decide) _)
  isplitl [HO H2]
  · isplitr; · iexact HI
    isplitr; · iexact Hlev
    isplitl [HO]; · iexact HO
    iexact H2
  iintro ⟨HO, H2⟩
  iapply (addAndSend_rule x K d 1 _ _ (to_5 d) [7] (by decide) _)
  isplitl [HO H1]
  · isplitr; · iexact HI
    isplitr; · iexact Hlev
    isplitl [HO]; · iexact HO
    iexact H1
  iintro ⟨HO, H1⟩
  iapply (addAndSend_rule x K d 3 _ _ (to_7 d) [] (by decide) _)
  isplitl [HO H3]
  · isplitr; · iexact HI
    isplitr; · iexact Hlev
    isplitl [HO]; · iexact HO
    iexact H3
  iintro ⟨HO, H3⟩
  iapply (addAndWrite_rule x K d 0 _ _)
  isplitl [HO H0]
  · isplitr; · iexact HI
    isplitr; · iexact Hlev
    isplitl [HO] <;> iassumption
  iintro ⟨HO, H0⟩
  iapply (addAndWrite_rule x K d 2 _ _)
  isplitl [HO H2]
  · isplitr; · iexact HI
    isplitr; · iexact Hlev
    isplitl [HO] <;> iassumption
  iintro ⟨HO, H2⟩
  iapply (addAndWrite_rule x K d 1 _ _)
  isplitl [HO H1]
  · isplitr; · iexact HI
    isplitr; · iexact Hlev
    isplitl [HO] <;> iassumption
  iintro ⟨HO, H1⟩
  iapply (addAndWrite_rule x K d 3 _ _)
  isplitl [HO H3]
  · isplitr; · iexact HI
    isplitr; · iexact Hlev
    isplitl [HO] <;> iassumption
  iintro ⟨HO, H3⟩
  iapply (drain_rule x K d 0 _ _)
  isplitl [HO H0]
  · isplitr; · iexact HI
    isplitl [HO] <;> iassumption
  iintro ⟨HO, H0⟩
  iapply (drain_rule x K d 1 _ _)
  isplitl [HO H1]
  · isplitr; · iexact HI
    isplitl [HO] <;> iassumption
  iintro ⟨HO, H1⟩
  iapply (drain_rule x K d 2 _ _)
  isplitl [HO H2]
  · isplitr; · iexact HI
    isplitl [HO] <;> iassumption
  iintro ⟨HO, H2⟩
  iapply (drain_rule x K d 3 _ _)
  isplitl [HO H3]
  · isplitr; · iexact HI
    isplitl [HO] <;> iassumption
  iintro ⟨HO, H3⟩
  iapply Hk
  isplitl [HO]; · iexact HO
  isplitl [Hin]; · iexact Hin
  isplitl [Hz]; · iexact Hz
  isplitl [H0]; · iexact H0
  isplitl [H1]; · iexact H1
  isplitl [H2]; · iexact H2
  iexact H3

end Cert.Gather
-- ==== Proof.Stage.lean ====
/-
The pipeline's side of the kernel: what its one grid point starts from and leaves, and the body's obligation there.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers into chunks and back -/

section Deal
variable (x : Dev nD → Vec F S512x512 .bf16) (d : Dev nD)

/-- The scratch and the result block, whole. -/
def scrPts (f : Vec F S16x128x512 .bf16) : sProp 𝕄 := ((d : Thread nD τ).loc cc0_scratch0) ↦{fullShare} f
/-- The staged result, held whole. -/
def outPts (f : Vec F S512x512 .f32) : sProp 𝕄 := ((d : Thread nD τ).loc cc0_stg1_0) ↦{fullShare} f

omit [FloatOps F] in
/-- A slot of known contents is a slot. -/
theorem anySlot_intro (a : ℕ) (f : Vec F S16x128x512 .bf16) : slotPts d a fullShare f ⊢ anySlot (F := F) d a := by
  unfold anySlot; iintro H; iexists f; iexact H
omit [FloatOps F] in
/-- Rows of known contents are rows. -/
theorem anyRows_intro (q : ℕ) (f : Vec F S512x512 .f32) : rowPts d q f ⊢ anyRows (F := F) d q := by
  unfold anyRows; iintro H; iexists f; iexact H

omit [FloatOps F] in
/-- Every thing of a family turned into another. -/
theorem each {I : Type} [Fintype I] {Φ Ψ : I → sProp 𝕄} (h : ∀ i, Φ i ⊢ Ψ i) : bigSep Finset.univ Φ ⊢ bigSep Finset.univ Ψ :=
  bigSep_mono fun i _ => h i

omit [FloatOps F] in
/-- The slots others write are the two loans. -/
theorem lend : (bigSep (Finset.univ : Finset (Fin 4)) fun q => iprop(anySlot (F := F) d (4 + q.val) ∗ anySlot d (12 + q.val)))
    ⊢ iprop(lent (F := F) d false ∗ lent d true) := by
  rw [four]
  unfold lent
  iintro ⟨⟨H4, H12⟩, ⟨H5, H13⟩, ⟨H6, H14⟩, ⟨H7, H15⟩⟩
  isplitl [H4 H5 H14 H15]
  · isplitl [H4]; · iexact H4
    isplitl [H5]; · iexact H5
    isplitl [H14]; · iexact H14
    iexact H15
  isplitl [H6]; · iexact H6
  isplitl [H7]; · iexact H7
  isplitl [H12]; · iexact H12
  iexact H13

omit [FloatOps F] in
/-- The scratch, the result block and the tokens dealt to the chunks. -/
theorem deal (f : Vec F S16x128x512 .bf16) (g : Vec F S512x512 .f32) :
    iprop(scrPts d f ∗ outPts d g ∗ (bigSep (Finset.univ : Finset (Fin 8)) (ready (F := F) d)) ∗ bigSep (Finset.univ : Finset (Fin 8)) (awaited d))
      ⊢ iprop((lent (F := F) d false ∗ lent d true) ∗ bigSep (Finset.univ : Finset (Fin 4)) fun q => own d q.val q.isLt) := by
  unfold scrPts outPts
  rw [scratch_slots, out_rows, slots_by_chunk fun a => slotPts d a fullShare f, hops_by_chunk, hops_by_chunk]
  unfold own
  simp only [bigSep_sep']
  iintro ⟨⟨Ha, Hb, Hc, Hd⟩, Ho, ⟨Hr, Hr'⟩, ⟨Hw, Hw'⟩⟩
  isplitl [Hb Hd]
  · iapply (lend (F := F) d)
    rw [bigSep_sep']
    isplitl [Hb]
    · iapply (each fun q : Fin 4 => anySlot_intro d (4 + q.val) f); iexact Hb
    · iapply (each fun q : Fin 4 => anySlot_intro d (12 + q.val) f); iexact Hd
  isplitl [Ha Hc]
  · isplitl [Ha]
    · iapply (each fun q : Fin 4 => anySlot_intro d q.val f); iexact Ha
    · iapply (each fun q : Fin 4 => anySlot_intro d (8 + q.val) f); iexact Hc
  isplitl [Hr Hr']
  · isplitl [Hr] <;> iassumption
  isplitl [Hw Hw']
  · isplitl [Hw] <;> iassumption
  iapply (each fun q : Fin 4 => anyRows_intro d q.val g); iexact Ho

/-- The finished chunks are the whole scratch, the whole result block and every semaphore back at zero. -/
theorem collect : (bigSep (Finset.univ : Finset (Fin 4)) fun q => done x d q.val q.isLt)
    ⊢ iprop(scrPts d (slab x d) ∗ outPts d (outAll x d)
        ∗ (bigSep (Finset.univ : Finset (Fin 8)) fun j => semVal (sndCell d j) 0) ∗ bigSep (Finset.univ : Finset (Fin 8)) fun j => semVal (rcvCell d j) 0) := by
  unfold scrPts outPts
  rw [scratch_slots, out_rows, slots_by_chunk fun a => slotPts d a fullShare (slab x d), hops_by_chunk fun j => semVal (sndCell d j) 0,
    hops_by_chunk fun j => semVal (rcvCell d j) 0]
  rw [← bigSep_sep', ← bigSep_sep', ← bigSep_sep']
  refine each fun q => ?_
  unfold done
  iintro ⟨Hs, ⟨H1, H2, H3, H4⟩, Ho⟩
  isplitl [Hs]; · iexact Hs
  isplitl [Ho]; · iexact Ho
  isplitl [H1 H2]
  · isplitl [H1] <;> iassumption
  isplitl [H3] <;> iassumption

end Deal

/-! ## The pipeline's data -/

variable (m : (ℓ : Loc nD τ sig) → Buf (Elt F) ℓ) (ρ : Dev nD → PrngReg)

/-- The state at launch. -/
def s₀ : MemSt nD τ sig (Elt F) := ⟨m, fun _ => 0, ρ⟩

/-- The block of device `c` as the pipeline fetches it. -/
def xIn (c : Dev nD) : Vec F S512x512 .bf16 :=
  (win0_0.blk (0 : Fin 1)).view.read (Elt F) ((s₀ m ρ).mem ((c : Thread nD τ).loc main_arg0))

/-- What the launch gives device `c` beside buffers and credits. -/
def ghost (K : Dev nD × Place → ℕ) (c : Dev nD) : sProp 𝕄 :=
  iprop(known (xIn m ρ) K ∗ (dutyTok ER (barCell (across c)) 0 false ∗ dutyTok ER (barCell (along c)) 0 true ∗ atPos ER (barCell c) 0 ∅ 0)
    ∗ (bigSep (Finset.univ : Finset (Fin 8)) (ready (F := F) c)) ∗ bigSep (Finset.univ : Finset (Fin 8)) fun j => atPos ER (rcvCell c j) 0 ∅ 0)

/-- What the body starts from beside the buffers. -/
def start (c : Dev nD) : sProp 𝕄 :=
  iprop((∃ K, ghost m ρ K c) ∗ (cred (tallyAt (barCell c) () 2) ∗ bigSep (Finset.univ : Finset (Fin 8)) fun j => cred (tallyAt (rcvCell c j) () N)) ∗ levAts L lv)

/-- What the body starts from, with the scratch. -/
def Φ₀ (c : Dev nD) : sProp 𝕄 := iprop(start m ρ c ∗ ∃ f, scrPts (F := F) c f)
/-- What it leaves: the scratch at its final contents and every semaphore at zero. -/
def Φ₁ (c : Dev nD) : sProp 𝕄 :=
  iprop(scrPts c (slab (xIn m ρ) c) ∗ ((bigSep (Finset.univ : Finset (Fin 8)) fun j => semVal (sndCell c j) 0) ∗ bigSep (Finset.univ : Finset (Fin 8)) fun j => semVal (rcvCell c j) 0)
    ∗ semVal (barCell c) 0)

/-- The pipeline's account of the call: what the arrays hold, what the body leaves, what it owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => outAll (xIn m ρ) c
  Φ t := match t with
    | ⟨0, _⟩ => Φ₀ m ρ c
    | ⟨_ + 1, _⟩ => Φ₁ m ρ c
  q _ := fullShare
  owed t := match t with
    | ⟨0, _⟩ => owedAll c
    | ⟨_ + 1, _⟩ => 0

/-- There is one grid point. -/
theorem point_eq (t : Fin cfg0.N) : t = t0_0 := fin_N0 t
/-- At it the input is copied in. -/
theorem fetched (t : Fin cfg0.N) : (cfg0.win (0 : Fin 2)).fetch t = true := by rw [point_eq t]; rfl

omit [FloatOps F] in
/-- A product over the two windows. -/
theorem windows (Φ : Fin cfg0.W → sProp 𝕄) : bigSep Finset.univ Φ = iprop(Φ (0 : Fin 2) ∗ Φ (1 : Fin 2)) := bigSep_W0 Φ

/-- A staging buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a staging buffer is holding it at its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The body's precondition, spelled out. -/
def pre (c : Dev nD) : sProp 𝕄 :=
  iprop(Φ₀ m ρ c ∗ (dats m ρ 0 c).owesAt () (t0_0 : Fin cfg0.N).castSucc
    ∗ (∃ v, stg c cc0_stg0_0 ((dats m ρ 0 c).before (0 : Fin 2) (t0_0 : Fin cfg0.N) v))
    ∗ (∃ v, stg c cc0_stg1_0 ((dats m ρ 0 c).before (1 : Fin 2) (t0_0 : Fin cfg0.N) v)))
/-- The body's postcondition, spelled out. -/
def post (c : Dev nD) : sProp 𝕄 :=
  iprop(Φ₁ m ρ c ∗ (dats m ρ 0 c).owesAt () (t0_0 : Fin cfg0.N).succ ∗ stg c cc0_stg0_0 (xIn m ρ c) ∗ stg c cc0_stg1_0 (outAll (xIn m ρ) c))

set_option maxRecDepth 4000 in
/-- The body, from what the pipeline provides to what it expects back. -/
theorem body_sound (c : Dev nD) :
    pre m ρ c ⊢ runs c (cc0_body (F := F) inM (Memref.isWhole_whole _) outM (Memref.isWhole_whole _) scrM (Memref.isWhole_whole _) cc0_scratch1 cc0_scratch2)
      fun _ => post m ρ c := by
  rw [body_blocks]
  unfold pre Φ₀ start ghost stg Dat.owesAt Pipeline.owesWithin
  iintro ⟨⟨⟨⟨%K, #HI, ⟨Ht, Ht', Ha⟩, Hr, Hp⟩, ⟨Hc, Hw⟩, #Hlev⟩, ⟨%f, Hs⟩⟩, ⟨%W, %hW, HO⟩, ⟨%v0, %g0, %h0, Hx⟩, ⟨%v1, %g1, %h1, Ho⟩⟩
  have hx : g0 = xIn m ρ c := by rw [h0]; unfold Dat.before; rw [if_pos (fetched t0_0)]; rfl
  subst hx
  ihave HD := (deal (F := F) c f g1) $$ [Hs Ho Hr Hp Hw]
  · isplitl [Hs]; · iexact Hs
    isplitl [Ho]; · unfold outPts; iexact Ho
    isplitl [Hr]; · iexact Hr
    unfold awaited
    rw [bigSep_sep']
    isplitl [Hw] <;> iassumption
  icases HD with ⟨Hl, Hq⟩
  iapply (body_rule (xIn m ρ) K c _)
  isplitl [HO Hx Hl Ht Ht' Ha Hc Hq]
  · isplitr; · iexact HI
    isplitr; · iexact Hlev
    isplitl [HO]; · unfold debtor; iexists W; iexact HO
    isplitl [Hx]; · unfold inPts; iexact Hx
    isplitl [Hl]; · iexact Hl
    isplitl [Ht Ht' Ha Hc]
    · isplitl [Ht]; · iexact Ht
      isplitl [Ht']; · iexact Ht'
      isplitl [Ha] <;> iassumption
    iexact Hq
  unfold debtor inPts
  iintro ⟨⟨%W', HO⟩, Hx, Hz, Hq⟩
  ihave Hq := (collect (xIn m ρ) c) $$ Hq
  icases Hq with ⟨Hs, Ho, Hy, Hy'⟩
  unfold post Φ₁ stg Dat.owesAt Pipeline.owesWithin
  isplitl [Hs Hy Hy' Hz]
  · isplitl [Hs]; · iexact Hs
    isplitl [Hy Hy']
    · isplitl [Hy] <;> iassumption
    iexact Hz
  isplitl [HO]
  · iexists W'; isplitr; · (ipureintro; exact fun _ _ => Or.inl trivial)
    iexact HO
  isplitl [Hx]
  · iexists _; isplitr; · (ipureintro; rfl)
    iexact Hx
  iexists _; isplitr; · (ipureintro; rfl)
  unfold outPts; iexact Ho

set_option maxRecDepth 4000 in
/-- The pipeline's obligation for the body. -/
theorem body_obligation (c : Dev nD) : BodyObligation (dats (F := F) m ρ 0 c) (defs₀ (F := F)) 𝒱₀ () Set.univ := fun t => by
  rw [point_eq t, windows, windows]
  simp only [owns_stg]
  exact body_sound m ρ c

end Cert.Gather
-- ==== Proof.Launch.lean ====
/-
The launch: the cells, tokens and credits dealt to the devices before they start, and the run of the whole program.
-/
module

public import proofs.«01_k».proof.Proof.Stage
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The semaphore of a place; the kernel's own are all but the barrier. -/
def placeSem : Place → SemLoc sig
  | none => .reg barS
  | some (false, j) => .dma (sndSem j)
  | some (true, j) => .dma (rcvSem j)
/-- The semaphores that the kernel declares. -/
def ownSem (k : Bool × Fin 8) : SemLoc sig := placeSem (some k)

/-- A cell is a device and a place's semaphore. -/
theorem cellAt_eq (c : Dev nD) (p : Place) : cellAt (c, p) = ((c : Thread nD τ), placeSem p) := by
  rcases p with _ | ⟨_ | _, j⟩ <;> rfl

/-- Different places have different semaphores. -/
theorem placeSem_injective : Function.Injective placeSem := by decide
/-- The kernel's own semaphores are exactly those its places name. -/
theorem ownSemFacts : Pipeline.OwnSemFacts cfg0.spec ownSem := by decide

/-- Different devices or places give different cells. -/
theorem cellAt_injective : Function.Injective cellAt := by
  rintro ⟨c, p⟩ ⟨c', p'⟩ h
  rw [cellAt_eq, cellAt_eq] at h
  have hc : c = c' := congrArg (fun g : GSem nD τ sig => g.1.1) h
  have hp : p = p' := placeSem_injective (congrArg Prod.snd h)
  rw [hc, hp]

/-- A device's duties: the barrier's second one, or the first one of a place. -/
def dutyOf (t : Dev nD × Option Place) : GSem nD τ sig × ℕ × Bool := match t.2 with
  | none => (barCell t.1, 0, true)
  | some p => (cellAt (t.1, p), 0, false)

/-- No duty is named twice. -/
theorem dutyOf_injective : Function.Injective dutyOf := by
  rintro ⟨c, _ | p⟩ ⟨c', _ | p'⟩ h
  · have hc : c = c' := congrArg (fun g : GSem nD τ sig × ℕ × Bool => g.1.1.1) h
    rw [hc]
  · exact absurd (congrArg (fun g : GSem nD τ sig × ℕ × Bool => g.2.2) h) Bool.noConfusion
  · exact absurd (congrArg (fun g : GSem nD τ sig × ℕ × Bool => g.2.2) h) Bool.noConfusion
  · have hp := cellAt_injective (congrArg Prod.fst h)
    obtain ⟨h₁, h₂⟩ := Prod.mk.inj hp
    exact Prod.ext h₁ (congrArg some h₂)

/-- Every cell of the protocol. -/
def allCells : Finset (GSem nD τ sig) := Finset.univ.map ⟨cellAt, cellAt_injective⟩
/-- Every duty of the protocol. -/
def allDuties : Finset (GSem nD τ sig × ℕ × Bool) := Finset.univ.map ⟨dutyOf, dutyOf_injective⟩

/-- What the protocol's resource starts from. -/
def u₀ : UU :=
  (initOf (Pipeline.cells cfgs cellOf_inj) (Pipeline.launchToks cfgs cellOf_inj), initOf allCells allDuties)

/-! ## Sums over places -/

omit [FloatOps F] in
/-- A product over a type with one more point. -/
theorem bigSep_option {I : Type} [Fintype I] (Φ : Option I → sProp 𝕄) :
    bigSep Finset.univ Φ = iprop(Φ none ∗ bigSep Finset.univ fun i => Φ (some i)) := by
  rw [bigSep_univ_equiv (Equiv.optionEquivSumPUnit.{0} I).symm, bigSep_univ_sum, bigSep_univ_of_subsingleton PUnit.unit.{1}]
  exact BI.equiv_iff.mp ⟨sep_comm, sep_comm⟩

omit [FloatOps F] in
/-- The kernel's own semaphores are the send and the receive semaphores. -/
theorem bigSep_own (Φ : Bool × Fin 8 → sProp 𝕄) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) _

omit [FloatOps F] in
/-- A product over the places: the barrier, the send cells, the receive cells. -/
theorem bigSep_place (Φ : Place → sProp 𝕄) :
    bigSep Finset.univ Φ = iprop(Φ none ∗ (bigSep Finset.univ fun j => Φ (some (false, j))) ∗ bigSep Finset.univ fun j => Φ (some (true, j))) := by
  rw [bigSep_option, bigSep_own]

/-! ## The ghost state -/

/-- The tokens of device `c`'s own cells, and the tokens of the duties device `c` pays. -/
def cellToks (c : Dev nD) : sProp 𝕄 :=
  iprop(dutyTok ER (barCell c) 0 true ∗ dutyTok ER (barCell c) 0 false
    ∗ (bigSep Finset.univ fun j => dutyTok ER (sndCell c j) 0 false) ∗ bigSep Finset.univ fun j => dutyTok ER (rcvCell c j) 0 false)
/-- The tokens of the duties that device `c` pays. -/
def payToks (c : Dev nD) : sProp 𝕄 :=
  iprop(dutyTok ER (barCell (along c)) 0 true ∗ dutyTok ER (barCell (across c)) 0 false
    ∗ (bigSep Finset.univ fun j => dutyTok ER (sndCell c j) 0 false) ∗ bigSep Finset.univ fun j : Fin 8 => dutyTok ER (rcvCell (peer c j.val) j) 0 false)

/-- What each device gets at first, and what it gets in the end. -/
def G (c : Dev nD) : sProp 𝕄 :=
  iprop((bigSep Finset.univ fun p => roundState ER (rounds (xIn m ρ)) (cellAt (c, p)) 0)
    ∗ (bigSep Finset.univ fun p => reached ER (cellAt (c, p)) 0) ∗ (bigSep Finset.univ fun p => atPos ER (cellAt (c, p)) 0 ∅ 0) ∗ cellToks c)
/-- What device `c` holds of the protocol once the invariants are up. -/
def G' (c : Dev nD) : sProp 𝕄 := iprop(∃ K, ghost m ρ K c)

omit [FloatOps F] in
/-- All tokens, dealt to the devices whose cells they are of. -/
theorem toks_dealt : bigSep allDuties (fun t => (dutyTok ER t.1 t.2.1 t.2.2 : sProp 𝕄)) = bigSep Finset.univ fun c : Dev nD => cellToks c := by
  unfold allDuties; rw [bigSep_map, bigSep_univ_prod]
  exact bigSep_congr fun c _ => by unfold cellToks; rw [bigSep_option, bigSep_place]; rfl

/-- The starting resource gives every device its tokens and positions. -/
theorem fund_all : BI.own (ER (initOf allCells allDuties)) ⊢ (|==> bigSep Finset.univ (G m ρ) : sProp 𝕄) := by
  have hX (Φ : GSem nD τ sig → sProp 𝕄) : bigSep allCells Φ = bigSep Finset.univ fun c : Dev nD => bigSep Finset.univ fun p : Place => Φ (cellAt (c, p)) := by
    unfold allCells; rw [bigSep_map, bigSep_univ_prod]; rfl
  iintro HX
  imod (Rounds.fund ER (rounds (xIn m ρ)) allCells allDuties) $$ HX with ⟨Hst, Hr, Hat, Htok⟩
  imodintro
  ihave Hst := (Entails.of_eq (hX fun g => roundState ER (rounds (xIn m ρ)) g 0)) $$ Hst
  ihave Hr := (Entails.of_eq (hX fun g => reached ER g 0)) $$ Hr
  ihave Hat := (Entails.of_eq (hX fun g => atPos ER g 0 ∅ 0)) $$ Hat
  ihave Htok := (Entails.of_eq toks_dealt) $$ Htok
  unfold G; rw [bigSep_sep', bigSep_sep', bigSep_sep']
  isplitl [Hst]; · iexact Hst
  isplitl [Hr]; · iexact Hr
  isplitl [Hat] <;> iassumption

omit [FloatOps F] in
/-- The one semaphore that outlives the call is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero of all places. -/
theorem sems_eq (c : Dev nD) :
    iprop(unscopedSems0 c ∗ Pipeline.ownSems0 (Ix := Unit) (Name := ℕ) (U := UU) (Lvl := ℕ) (Val := Elt F) (τ := τ) ownSem c)
      = (bigSep Finset.univ fun p => semVal (cellAt (c, p)) 0 : sProp 𝕄) := by
  rw [bigSep_option, unscoped_eq]
  refine congrArg (fun X => iprop(semVal (barCell c) 0 ∗ X)) (bigSep_congr fun k _ => ?_)
  rw [cellAt_eq]; rfl

/-- Device `c`'s cells get their invariants. -/
theorem alloc (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> iprop((bigSep Finset.univ fun p => iprop(∃ κ : ℕ, cellInv ER (rounds (xIn m ρ)) κ (cellAt (c, p))))
          ∗ (bigSep Finset.univ fun p => reached ER (cellAt (c, p)) 0) ∗ (bigSep Finset.univ fun p => atPos ER (cellAt (c, p)) 0 ∅ 0) ∗ cellToks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun p => semVal (cellAt (c, p)) 0) ∗ bigSep Finset.univ fun p => roundState ER (rounds (xIn m ρ)) (cellAt (c, p)) 0)
      ⊢ (|={Set.univ}=> bigSep Finset.univ fun p => iprop(∃ κ : ℕ, cellInv ER (rounds (xIn m ρ)) κ (cellAt (c, p))) : sProp 𝕄) from by
        rw [← bigSep_sep']
        exact (each fun p => (Rounds.body_intro ER (rounds (xIn m ρ)) (cellAt (c, p))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

omit [FloatOps F] in
/-- Every token goes to the device that pays its duty. -/
theorem toks_paid : (bigSep Finset.univ fun c : Dev nD => (cellToks c : sProp 𝕄)) ⊢ bigSep Finset.univ fun c : Dev nD => payToks c := by
  have hR : (bigSep Finset.univ fun c : Dev nD => bigSep Finset.univ fun j : Fin 8 => (dutyTok ER (rcvCell c j) 0 false : sProp 𝕄))
      = bigSep Finset.univ fun c : Dev nD => bigSep Finset.univ fun j : Fin 8 => dutyTok ER (rcvCell (peer c j.val) j) 0 false := by
    rw [bigSep_univ_comm, bigSep_univ_comm (fun (c : Dev nD) (j : Fin 8) => (dutyTok ER (rcvCell (peer c j.val) j) 0 false : sProp 𝕄))]
    exact bigSep_congr fun j _ => bigSep_univ_equiv (pairing j.val) fun c => (dutyTok ER (rcvCell c j) 0 false : sProp 𝕄)
  unfold cellToks payToks
  simp only [bigSep_sep']
  rw [hR, bigSep_univ_equiv alongEquiv fun c => (dutyTok ER (barCell c) 0 true : sProp 𝕄),
    bigSep_univ_equiv acrossEquiv fun c => (dutyTok ER (barCell c) 0 false : sProp 𝕄)]
  exact .rfl

/-- What device `c` alone holds of the ghost state. -/
def mine (c : Dev nD) : sProp 𝕄 := iprop((bigSep Finset.univ fun p => atPos ER (cellAt (c, p)) 0 ∅ 0) ∗ payToks c)

/-- A device's part, from the shared invariants and what is its own. -/
theorem ghost_intro (K : Dev nD × Place → ℕ) (c : Dev nD) : iprop(known (xIn m ρ) K ∗ mine c) ⊢ G' m ρ c := by
  unfold mine payToks G' ghost ready
  rw [bigSep_place]
  simp only [bigSep_sep']
  iintro ⟨#HI, ⟨Ha, Has, Har⟩, Ht, Ht', Hs, Hr⟩
  iexists K
  isplitr; · iexact HI
  isplitl [Ht Ht' Ha]
  · isplitl [Ht']; · iexact Ht'
    isplitl [Ht]; · iexact Ht
    iexact Ha
  isplitl [Hs Hr Has]
  · isplitl [Hs]; · iexact Hs
    isplitl [Hr]; · iexact Hr
    iexact Has
  iexact Har

/-- Everything set up, regrouped by device. -/
theorem regroup :
    (bigSep Finset.univ fun c : Dev nD => iprop((bigSep Finset.univ fun p => iprop(∃ κ : ℕ, cellInv ER (rounds (xIn m ρ)) κ (cellAt (c, p))))
          ∗ (bigSep Finset.univ fun p => reached ER (cellAt (c, p)) 0) ∗ (bigSep Finset.univ fun p => atPos ER (cellAt (c, p)) 0 ∅ 0) ∗ cellToks c) : sProp 𝕄)
      ⊢ bigSep Finset.univ (G' m ρ) := by
  rw [bigSep_sep', bigSep_sep', bigSep_sep', ← bigSep_univ_prod (fun p : Dev nD × Place => iprop(∃ κ : ℕ, cellInv ER (rounds (xIn m ρ)) κ (cellAt p))),
    ← bigSep_univ_prod (fun p : Dev nD × Place => (reached ER (cellAt p) 0 : sProp 𝕄))]
  iintro ⟨HI, #HR, Hat, Htok⟩
  ihave HK := (BI.bigSep_exists_pi Finset.univ (fun (p : Dev nD × Place) (κ : ℕ) => (cellInv ER (rounds (xIn m ρ)) κ (cellAt p) : sProp 𝕄))) $$ HI
  icases HK with ⟨%K, #HI⟩
  ihave Htok := (toks_paid (F := F)) $$ Htok
  iapply (bigSep_with_persistent (R := known (xIn m ρ) K) fun c _ => ghost_intro m ρ K c)
  isplitr
  · unfold known; rw [bigSep_sep']
    isplitl; · iexact HI
    iexact HR
  · unfold mine; rw [bigSep_sep']
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) ownSem c ∗ unscopedSems0 c ∗ G m ρ c) : sProp 𝕄)
    ⊢ |={Set.univ}=> bigSep Finset.univ (G' m ρ) :=
  ((each fun c => alloc m ρ c).trans (bigSep_fupd _ _)).trans (BI.fupd_mono (regroup m ρ))

/-! ## The credits at launch -/

/-- Receive cells are equal only when their devices and transfers are. -/
theorem rcvCell_eq_iff {c c' : Dev nD} {j j' : Fin 8} : rcvCell c j = rcvCell c' j' ↔ c = c' ∧ j = j' :=
  ⟨fun h => by
    have h' := cellAt_injective (show cellAt (c, some (true, j)) = cellAt (c', some (true, j')) from h)
    injection h' with h1 h2; injection h2 with h3; injection h3 with _ h4
    exact ⟨h1, h4⟩, fun ⟨h, h'⟩ => by rw [h, h']⟩
/-- Barrier cells are equal only when their devices are. -/
theorem barCell_eq_iff {c c' : Dev nD} : barCell c = barCell c' ↔ c = c' :=
  ⟨fun h => congrArg (fun g : GSem nD τ sig => g.1.1) h, fun h => h ▸ rfl⟩
/-- A receive cell is no barrier cell. -/
theorem rcvCell_ne_bar (c c' : Dev nD) (j : Fin 8) : rcvCell c j ≠ barCell c' := fun h => absurd (congrArg Prod.snd h) (by rintro ⟨⟩)

/-- No transfer owes a barrier cell anything. -/
theorem debt_bar (d c : Dev nD) (l : List (Fin 8)) : debt d l (barCell c) () = 0 := by
  induction l with
  | nil => rfl
  | cons j l ih => rw [debt, Pi.add_apply, Finsupp.add_apply, ih, tallyAt_ne_cell (rcvCell_ne_bar _ _ _).symm, Finsupp.zero_apply, Nat.add_zero]

/-- What a list of transfers owes a receive cell. -/
theorem debt_rcv (d c : Dev nD) (j : Fin 8) (l : List (Fin 8)) (hl : l.Nodup) :
    debt d l (rcvCell c j) () = if j ∈ l ∧ d = peer c j.val then N else 0 := by
  induction l with
  | nil => rw [if_neg fun h => List.not_mem_nil h.1]; rfl
  | cons k l ih =>
    obtain ⟨hk, hl⟩ := List.nodup_cons.mp hl
    rw [debt, Pi.add_apply, Finsupp.add_apply, ih hl, tallyAt_apply]
    by_cases hj : j = k
    · subst hj
      rw [if_neg fun h => hk h.1, Nat.zero_add]
      by_cases hd : d = peer c j.val
      · rw [if_pos ⟨rcvCell_eq_iff.mpr ⟨by rw [hd, peer_peer], rfl⟩, rfl⟩, if_pos ⟨List.mem_cons_self, hd⟩]
      · rw [if_neg fun h => hd (by rw [(rcvCell_eq_iff.mp h.1).1, peer_peer]), if_neg fun h => hd h.2]
    · rw [if_neg (c := _ ∧ () = ()) fun h => hj (rcvCell_eq_iff.mp h.1).2, Nat.add_zero]
      simp only [List.mem_cons, hj, false_or]

/-- Device `d` owes one unit to the barrier of each neighbour. -/
theorem owed_bar (d c : Dev nD) : owedAll d (barCell c) () = (if d = along c then 1 else 0) + (if d = across c then 1 else 0) := by
  rw [owedAll, Pi.add_apply, Finsupp.add_apply, Pi.add_apply, Finsupp.add_apply, debt_bar, Nat.zero_add, tallyAt_apply, tallyAt_apply]
  refine congrArg₂ _ (if_congr ?_ rfl rfl) (if_congr ?_ rfl rfl)
  · exact ⟨fun h => by rw [barCell_eq_iff.mp h.1, along_along], fun h => ⟨by rw [h, along_along], rfl⟩⟩
  · exact ⟨fun h => by rw [barCell_eq_iff.mp h.1, across_across], fun h => ⟨by rw [h, across_across], rfl⟩⟩

/-- Device `d` owes a receive cell of its neighbour one slot's credit. -/
theorem owed_rcv (d c : Dev nD) (j : Fin 8) : owedAll d (rcvCell c j) () = if d = peer c j.val then N else 0 := by
  rw [owedAll, Pi.add_apply, Finsupp.add_apply, Pi.add_apply, Finsupp.add_apply, tallyAt_ne_cell (rcvCell_ne_bar _ _ _),
    tallyAt_ne_cell (rcvCell_ne_bar _ _ _), Finsupp.zero_apply, Nat.add_zero, Nat.add_zero, debt_rcv _ _ _ _ (by decide)]
  refine if_congr ⟨fun h => h.2, fun h => ⟨?_, h⟩⟩ rfl rfl
  exact (show ∀ j : Fin 8, j ∈ order by decide) j

/-- All devices together owe a barrier cell two units. -/
theorem launch_bar (c : Dev nD) :
    tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (along c) fun _ => 1, Finset.sum_ite_eq' Finset.univ (across c) fun _ => 1, if_pos (Finset.mem_univ _), if_pos (Finset.mem_univ _)]

/-- All devices together owe a receive cell one slot's credit. -/
theorem launch_rcv (c : Dev nD) (j : Fin 8) :
    tallyOn (rcvCell c j) (launchCredit (Pipeline.owing owedAll) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j,
    Finset.sum_ite_eq' Finset.univ (peer c j.val) fun _ => N, if_pos (Finset.mem_univ _)]

omit [FloatOps F] in
/-- The credits that device `c` starts with. -/
theorem creds (c : Dev nD) :
    (Pipeline.launchCred owedAll c : sProp 𝕄) ⊢ iprop(cred (tallyAt (barCell c) () 2) ∗ bigSep Finset.univ fun j : Fin 8 => cred (tallyAt (rcvCell c j) () N)) := by
  have hi : Function.Injective fun j : Fin 8 => (SemLoc.dma (rcvSem j) : SemLoc sig) := by decide
  unfold Pipeline.launchCred
  rw [bigSep_univ_at _ (SemLoc.reg barS), launch_bar]
  have hsub : Finset.univ.map ⟨fun j : Fin 8 => (SemLoc.dma (rcvSem j) : SemLoc sig), hi⟩ ⊆ Finset.univ.erase (SemLoc.reg barS) := fun s hs => by
    obtain ⟨j, -, rfl⟩ := Finset.mem_map.mp hs
    exact Finset.mem_erase.mpr ⟨by rintro ⟨⟩, Finset.mem_univ _⟩
  refine sep_mono_right (Entails.trans (BI.bigSep_subset hsub) (Entails.of_eq ?_))
  · rw [bigSep_map]
    exact bigSep_congr fun j _ => congrArg cred (launch_rcv c j)

/-! ## The run -/

/-- Every window is held whole. -/
theorem share_eq (c : Dev nD) (w : Fin cfg0.W) : (dats m ρ 0 c).share w = fullShare := by unfold Dat.share; split <;> rfl

/-- The body's start, from what the launch gives a device. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The state before the one grid point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, Hr⟩
  isplitl [Hs] <;> iassumption

/-- The state after it gives back the scratch and the semaphores. -/
theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ m ρ c from rfl, scopedRest0_eq, unscoped_eq]
  unfold Φ₁ scrPts Pipeline.ownSems0
  rw [bigSep_own]
  iintro ⟨Hr, Hz, HzB⟩
  isplitl [HzB]; · iexact HzB
  isplitl [Hz]; · iexact Hz
  iexists (slab (xIn m ρ) c); iexact Hr

/-- The waits of the copies in and out are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of window `w`'s array on device `c` after the run. -/
def finalA (c : Dev nD) (w : Fin cfg0.W) : Buf (Elt F) ((cfg0.win w).arr.view.loc (c : Thread nD τ)) := (dats m ρ 0 c).arrAt w cfg0.N

/-- Every array is at its final contents. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero, every fair run of the four devices ends, with every array at its final
contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is left as it was. -/
theorem finalA_x (c : Dev nD) : finalA m ρ c (0 : Fin 2) = m (win0_0.arr.view.loc (c : Thread nD τ)) :=
  (dats (F := F) m ρ 0 c).arrAt_in (0 : Fin 2) rfl _

end Cert.Gather
-- ==== Proof.Value.lean ====
/-
The contents of the two arrays after a run, and what the result is at the exact values: the sum, over the four
devices, of the input blocks.
-/
module

public import proofs.«01_k».proof.Proof.Launch
public import Idealize.ShloMosaic.PureOps.Ideal.Laws

@[expose] public section

noncomputable section

namespace Cert.Gather

open Cert.KernelIdeal Cert.KernelIdeal.Gen
open Idealize.ShloMosaic
open Idealize.ShloMosaic.TcCoe
open Idealize.ShloMosaic.ValueIdx
open Idealize.SL.Sem

section Arrays
variable {F : FTy → Type} [FloatOps F] (m : (ℓ : Loc nD τ sig) → Buf (Elt F) ℓ) (ρ : Dev nD → PrngReg)

/-- The input window's one block is the input array. -/
theorem xIn_eq (c : Dev nD) : xIn m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends at what the body left in the staging buffer. -/
theorem finalA_out (c : Dev nD) : finalA m ρ c (1 : Fin 2) = outAll (xIn m ρ) c := by
  have hz : (fun a => (win0_1.index (0 : Fin 1)) a * main_v1.ty.shape.size a) = fun _ => 0 :=
    funext fun a => by fin_cases a <;> decide
  have hblk : (win0_1.blk (0 : Fin 1)).view.read (Elt F) (finalA m ρ c (1 : Fin 2)) = outAll (xIn m ρ) c :=
    (dats m ρ 0 c).read_blk_arrAt_eq_flushed (1 : Fin 2) (fun t t' _ _ hne => absurd ((point_eq t).trans (point_eq t').symm) hne)
      cfg0.N t0_0 t0_0.isLt (by decide)
  exact (Memref.read_access_unit_zero (Elt F) main_v1 hz (fun a => by fin_cases a <;> decide) _).symm.trans hblk

end Arrays

/-! ## At the exact values -/

/-- A sum over the devices, met in the order a device meets them. -/
theorem sum_devices {M : Type} [AddCommMonoid M] (f : Dev nD → M) (d : Dev nD) :
    ∑ e, f e = f d + (f (across d) + (f (along d) + f (along (across d)))) := by
  rw [devices_eq d, Finset.sum_insert (by revert d; decide), Finset.sum_insert (by revert d; decide),
    Finset.sum_insert (by revert d; decide), Finset.sum_singleton]

/-- The two ways of going to the opposite corner agree. -/
theorem across_along (d : Dev nD) : across (along d) = along (across d) := by revert d; decide

/-- Two rounds of pairwise sums meet every device once, whichever neighbour comes first. -/
theorem two_rounds {M : Type} [AddCommMonoid M] (f : Dev nD → M) (d : Dev nD) {q : ℕ} (hq : q < 4) :
    (f d + f (peer d q)) + (f (peer d (4 + q)) + f (peer (peer d (4 + q)) q)) = ∑ e, f e := by
  rw [sum_devices f d, add_assoc]
  rcases peer_two_hops d hq with ⟨h, h'⟩ | ⟨h, h'⟩
  · have h2 : peer (along d) q = across (along d) := by
      unfold peer at h ⊢
      split at h
      · exact if_pos ‹_›
      · exact absurd h.symm (across_ne_along d)
    rw [h, h', h2, across_along]
  · have h2 : peer (across d) q = along (across d) := by
      unfold peer at h ⊢
      split at h
      · exact absurd h (across_ne_along d)
      · exact if_neg ‹_›
    rw [h, h', h2, add_left_comm (f (along d))]

/-- A chunk's row, back in the block it was cut from. -/
theorem chunk_at {F : FTy → Type} [FloatOps F] (x : Dev nD → Vec F S512x512 .bf16) (e : Dev nD) (i : S512x512.Idx) :
    chunk x e ((i 0).val / 128) (ix2 (⟨(i 0).val % 128, Nat.mod_lt _ (by decide)⟩ : Fin 128) (i 1)) = x e i := by
  have hi : (i 0).val < 512 := (i 0).isLt
  unfold chunk
  refine congrArg (x e) (funext fun a => Fin.ext ?_)
  match a with
  | ⟨0, _⟩ =>
    show (128 * ((i 0).val / 128) + (i 0).val % 128) % 512 = (i 0).val
    omega
  | ⟨1, _⟩ => rfl

/-- Every device's result is the sum of the four blocks. -/
theorem outAll_sum (x : Dev nD → Vec Ideal S512x512 .bf16) (d : Dev nD) (i : S512x512.Idx) :
    outAll x d i = ∑ e : Dev nD, (x e i : EReal) := by
  have hi : (i 0).val < 512 := (i 0).isLt
  rw [← two_rounds (fun e => (x e i : EReal)) d (show (i 0).val / 128 < 4 by omega)]
  simp only [← chunk_at x _ i]
  rfl

end Cert.Gather
-- ==== Proof.Whole.lean ====
/-
The reference: its result at an index is the sum, over the four devices, of the blocks of the whole array that the
devices hold.
-/
module

public import proofs.«01_k».proof.Proof.Value
public import proofs.«01_k».proof.Proof.Gen.ReferenceIdeal.Run

@[expose] public section

noncomputable section

namespace Cert.Gather

open Idealize.ShloMosaic
open Idealize.ShloMosaic.TcCoe
open Idealize.ShloMosaic.ValueIdx
open Idealize.SL.Sem

/-- The whole input array. -/
abbrev Whole : Type := FVec Ideal (⟨2, ![1024, 1024]⟩ : Shape) .bf16

/-- The block device `e` holds of the whole array. -/
def block (w : Whole) (e : Dev KernelIdeal.nD) : FVec Ideal (⟨2, ![512, 512]⟩ : Shape) .bf16 :=
  Layout.blockN ⟨2, ![512, 512]⟩ ⟨2, ![1024, 1024]⟩ (Layout.meshBlock [2, 2] ![[0], [1]] e) w

/-- Where an element of a device's block is among the four blocks laid side by side. -/
def corner (e : Dev KernelIdeal.nD) (j : (⟨2, ![512, 512]⟩ : Shape).Idx) : (⟨4, ![2, 512, 2, 512]⟩ : Shape).Idx :=
  ix4 (⟨e.val / 2, by have h : e.val < 4 := e.isLt; omega⟩ : Fin 2) (j 0) (⟨e.val % 2, Nat.mod_lt _ (by decide)⟩ : Fin 2) (j 1)

/-- Cut in four, the whole array is the devices' blocks. -/
theorem cut_corner (w : Whole) (h : (⟨2, ![1024, 1024]⟩ : Shape).ShapeCasts ⟨4, ![2, 512, 2, 512]⟩) (e : Dev KernelIdeal.nD)
    (j : (⟨2, ![512, 512]⟩ : Shape).Idx) : shapeCast ⟨4, ![2, 512, 2, 512]⟩ w h (corner e j) = block w e j := by
  refine shapeCast_apply w h _ _ ?_
  rw [Shape.rowMajor_val_two, Shape.rowMajor_val_four]
  have h0 : (j 0).val < 512 := (j 0).isLt
  have h1 : (j 1).val < 512 := (j 1).isLt
  have he : e.val < 4 := e.isLt
  show (Layout.meshLin [2, 2] e.val [0] * 512 + (j 0).val) * 1024 + (Layout.meshLin [2, 2] e.val [1] * 512 + (j 1).val)
    = (((e.val / 2) * 512 + (j 0).val) * 2 + e.val % 2) * 512 + (j 1).val
  have a0 : Layout.meshLin [2, 2] e.val [0] = e.val / 2 := by
    show e.val / 2 % 2 * 1 + 0 = _
    omega
  have a1 : Layout.meshLin [2, 2] e.val [1] = e.val % 2 := by
    show e.val / 1 % 2 * 1 + 0 = _
    omega
  rw [a0, a1]
  omega

/-- The four blocks side by side. -/
abbrev Four : Shape := ⟨4, ![2, 512, 2, 512]⟩
/-- One block. -/
abbrev One : Shape := ⟨2, ![512, 512]⟩

/-- Which device holds an element. -/
def holder (i : Four.Idx) : Dev KernelIdeal.nD :=
  ⟨2 * (i 0).val + (i 2).val, by
    have h0 : (i 0).val < 2 := (i 0).isLt
    have h2 : (i 2).val < 2 := (i 2).isLt
    show _ < 4
    omega⟩

/-- A block's elements are its device's. -/
theorem holder_corner (e : Dev KernelIdeal.nD) (j : One.Idx) : holder (corner e j) = e :=
  Fin.ext (show 2 * (e.val / 2) + e.val % 2 = e.val by omega)

/-- Forgetting which block gives the place in the block. -/
theorem drop_corner (h : Four.ReducesTo [0, 2] One) (e : Dev KernelIdeal.nD) (j : One.Idx) : h.drop (corner e j) = j := by
  funext b
  match b with
  | ⟨0, _⟩ => exact Fin.ext (h.drop_apply_val_of_eq (corner e j) 0 1)
  | ⟨1, _⟩ => exact Fin.ext (h.drop_apply_val_of_eq (corner e j) 1 3)

/-- The holder and the place in the block give the element back. -/
theorem corner_holder (h : Four.ReducesTo [0, 2] One) (i : Four.Idx) : corner (holder i) (h.drop i) = i := by
  have h2 : (i 2).val < 2 := (i 2).isLt
  funext a
  match a with
  | ⟨0, _⟩ => exact Fin.ext (show (2 * (i 0).val + (i 2).val) / 2 = (i 0).val by omega)
  | ⟨1, _⟩ => exact Fin.ext (h.drop_apply_val_of_eq i 0 1)
  | ⟨2, _⟩ => exact Fin.ext (show (2 * (i 0).val + (i 2).val) % 2 = (i 2).val by omega)
  | ⟨3, _⟩ => exact Fin.ext (h.drop_apply_val_of_eq i 1 3)

/-- The sum over the rows of blocks and the columns of blocks is the sum over the devices. -/
theorem sum_corners (h : Four.ReducesTo [0, 2] One) (v : Four.Idx → EReal) (j : One.Idx) :
    ∑ i ∈ Finset.univ.filter (fun i => h.drop i = j), v i = ∑ e : Dev KernelIdeal.nD, v (corner e j) := by
  have hj : ∀ i ∈ Finset.univ.filter (fun i => h.drop i = j), corner (holder i) j = i := fun i hi => by
    rw [← (Finset.mem_filter.mp hi).2]; exact corner_holder h i
  exact Finset.sum_bij' (fun i _ => holder i) (fun e _ => corner e j) (fun _ _ => Finset.mem_univ _)
    (fun e _ => Finset.mem_filter.mpr ⟨Finset.mem_univ _, drop_corner h e j⟩) hj (fun e _ => holder_corner e j)
    (fun i hi => congrArg v (hj i hi).symm)

/-- The reference's result at an index. -/
theorem reference_sum [ReferenceIdeal.Facts] (w : Whole) (j : (⟨2, ![512, 512]⟩ : Shape).Idx) :
    extf (F := Ideal) .f32 (truncf .bf16 (Host.reduceAdd (extf .f32 (shapeCast ReferenceIdeal.S2x512x2x512 w ReferenceIdeal.Facts₀.shapeCasts_S1024x1024_S2x512x2x512) ReferenceIdeal.Facts₀.bitsLt_bf16_f32)
      (constant ReferenceIdeal.S_ .f32 0x00000000#32) ReferenceIdeal.Facts₀.reducesTo_S2x512x2x512_S512x512_d0_2 ReferenceIdeal.Facts₀.h_S_) ReferenceIdeal.Facts₀.bitsLt_bf16_f32) ReferenceIdeal.Facts₀.bitsLt_bf16_f32 j
      = ∑ e : Dev KernelIdeal.nD, (block w e j : EReal) := by
  refine (congrArg₂ (· + ·) Ideal.ofBits_zero_f32 (sum_corners _ _ j)).trans ((zero_add _).trans ?_)
  exact Finset.sum_congr rfl fun e _ => cut_corner w _ e j

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import Idealize.ShloMosaic.Adequacy
public import Idealize.ShloMosaic.Init

@[expose] public section

noncomputable section

namespace Cert.Proof

open Idealize.ShloMosaic Idealize.SL.Sem Cert.Gather

instance : Cert.Kernel.Facts := Cert.Kernel.Gen.facts
instance : Cert.KernelIdeal.Facts := Cert.KernelIdeal.Gen.facts
instance : Cert.ReferenceIdeal.Facts := Cert.ReferenceIdeal.Gen.facts

/-- For any float values the kernel runs, and leaves its input and every semaphore as they were. -/
theorem frame_any {F : FTy → Type} [FloatOps F] (m : (ℓ : Loc KernelIdeal.nD KernelIdeal.τ KernelIdeal.sig) → Buf (Elt F) ℓ) (ρ : Dev KernelIdeal.nD → PrngReg) :
    θ_run (Cert.KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0))
      ∧ r.2.sem = fun _ => 0) :=
  (θ_run Cert.KernelIdeal.defs _ _).mono (fun _ h => ⟨fun c => (h.1 c (0 : Fin 2)).trans (finalA_x m ρ c), h.2⟩) (run_main m ρ)

/-- The kernel at the exact values. -/
theorem frame_ideal : Cert.quiescent_KernelIdeal := fun m ρ _ => frame_any m ρ

set_option maxRecDepth 100000 in
/-- The kernel in machine arithmetic has the same text as the kernel at the exact values: one body table. -/
theorem bodies_same : Cert.Kernel.defs₀ (F := Bits) = Cert.KernelIdeal.defs₀ (F := Bits) := by
  unfold Cert.Kernel.defs₀ Cert.KernelIdeal.defs₀
  refine congrArg _ (funext fun ℓ => funext fun a => ?_)
  obtain ⟨_ | n, h⟩ := ℓ
  · obtain ⟨t, s⟩ := a
    show Cert.Kernel.cc0_body (F := Bits) _ _ _ _ _ _ _ _ = Cert.KernelIdeal.cc0_body (F := Bits) _ _ _ _ _ _ _ _
    rfl
  · exact absurd h (by omega)

/-- So the two programs run the same table. -/
theorem defs_same : Cert.Kernel.defs (F := Bits) = Cert.KernelIdeal.defs (F := Bits) :=
  congrArg (Pipeline.defs Cert.KernelIdeal.pcfgs) bodies_same

set_option maxRecDepth 100000 in
/-- The kernel in machine arithmetic. -/
theorem frame_kernel : Cert.quiescent_Kernel := fun m ρ _ => by
  rw [defs_same]
  exact frame_any (F := Bits) m ρ

/-- The reference runs and leaves its input as it was. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the blocks of one whole array, every device ends with the reference's result. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono
    (fun _ h c => ⟨(h.1 c (1 : Fin 2)).trans ?_, (h.1 c (0 : Fin 2)).trans (finalA_x m ρ c)⟩) (run_main (F := Ideal) m ρ)
  refine (finalA_out m ρ c).trans (funext fun i => ?_)
  refine (outAll_sum (xIn m ρ) c i).trans (Eq.trans (Finset.sum_congr rfl fun e _ => ?_) (reference_sum _ i).symm)
  exact congrFun ((xIn_eq m ρ e).trans (hagree e)) i

/-- All five claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
